-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "sqrt_half" .f32 0x3F3504F3#32 ((Real.sqrt (1 / 2) : ℝ) : EReal)

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v28)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_v190) = v1 c
          ∧ r.2.mem ((c.tc : Thread Cert.ReferenceIdeal.nD Cert.ReferenceIdeal.τ).loc Cert.ReferenceIdeal.main_v212) = v2 c
          ∧ r.2.mem ((c.tc : Thread Cert.ReferenceIdeal.nD Cert.ReferenceIdeal.τ).loc Cert.ReferenceIdeal.main_v191) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_router_finite : Cert.Pre_router_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ preserves_Kernel_KernelIdeal
    ∧ algebraic_KernelIdeal_ReferenceIdeal_pre_router_finite (hKernelIdeal := hKernelIdeal) (hReferenceIdeal := hReferenceIdeal) (hPre_router_finite := hPre_router_finite)
-- ==== Pre_router_finite.lean ====
abbrev S4096x6x128 : Shape := ⟨3, ![4096, 6, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x6 : Shape := ⟨2, ![128, 6]⟩
abbrev S6 : Shape := ⟨1, ![6]⟩
abbrev S6x128x256 : Shape := ⟨3, ![6, 128, 256]⟩
abbrev S6x256 : Shape := ⟨2, ![6, 256]⟩
abbrev S6x256x256 : Shape := ⟨3, ![6, 256, 256]⟩
abbrev S6x256x120 : Shape := ⟨3, ![6, 256, 120]⟩
abbrev S6x120 : Shape := ⟨2, ![6, 120]⟩
abbrev S6x128x128 : Shape := ⟨3, ![6, 128, 128]⟩
abbrev S6x128 : Shape := ⟨2, ![6, 128]⟩
abbrev S6x128x64 : Shape := ⟨3, ![6, 128, 64]⟩
abbrev S6x64 : Shape := ⟨2, ![6, 64]⟩
abbrev S6x64x1 : Shape := ⟨3, ![6, 64, 1]⟩
abbrev S6x1 : Shape := ⟨2, ![6, 1]⟩
abbrev S_ : Shape := ⟨0, ![]⟩

class Facts : Prop where
  bcast_S_S4096x6x128 : S_.BroadcastsInDim S4096x6x128 (![] : Fin 0 → Fin S4096x6x128.rank)
  reducesTo_S4096x6x128_S_d0_1_2 : S4096x6x128.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x6 : S_.BroadcastsInDim S128x6 (![] : Fin 0 → Fin S128x6.rank)
  reducesTo_S128x6_S_d0_1 : S128x6.ReducesTo [0, 1] S_
  bcast_S_S6 : S_.BroadcastsInDim S6 (![] : Fin 0 → Fin S6.rank)
  reducesTo_S6_S_d0 : S6.ReducesTo [0] S_

variable [Facts]

def fn_part1 {F : FTy → Type} [FloatOps F] (main_arg4 : FVec F S128 .f32) (main_arg5 : FVec F S128x6 .f32) (main_arg6 : FVec F S6 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x6 .f32 := Host.absf main_arg5
  let main_cst_8 : FVec F S_ .f32 := constant S_ .f32 0x7F800000#32
  let main_v25 : FVec F S128x6 .f32 := broadcastInDim S128x6 ![] bcast_S_S128x6 main_cst_8
  let main_v26 : IVec S128x6 1 := cmpf .olt main_v24 main_v25
  let main_c_9 : IVec S_ 1 := constantI S_ 1 1#1
  let main_v27 : IVec S_ 1 := (fun x v => Host.reduce IntOp.andi x v reducesTo_S128x6_S_d0_1 h_S_) main_v26 main_c_9
  let main_v28 : IVec S_ 1 := andi main_v23 main_v27
  let main_v29 : FVec F S6 .f32 := Host.absf main_arg6
  let main_cst_10 : FVec F S_ .f32 := constant S_ .f32 0x7F800000#32
  let main_v30 : FVec F S6 .f32 := broadcastInDim S6 ![] bcast_S_S6 main_cst_10
  let main_v31 : IVec S6 1 := cmpf .olt main_v29 main_v30
  let main_c_11 : IVec S_ 1 := constantI S_ 1 1#1
  let main_v32 : IVec S_ 1 := (fun x v => Host.reduce IntOp.andi x v reducesTo_S6_S_d0 h_S_) main_v31 main_c_11
  let main_v33 : IVec S_ 1 := andi main_v28 main_v32
  main_v33

def fn {F : FTy → Type} [FloatOps F] (main_arg0 : FVec F S4096x6x128 .f32) (main_arg1 : FVec F S128x256 .f32) (main_arg2 : FVec F S256 .f32) (main_arg3 : FVec F S256x128 .f32) (main_arg4 : FVec F S128 .f32) (main_arg5 : FVec F S128x6 .f32) (main_arg6 : FVec F S6 .f32) (main_arg7 : FVec F S6x128x256 .f32) (main_arg8 : FVec F S6x256 .f32) (main_arg9 : FVec F S6x256x256 .f32) (main_arg10 : FVec F S6x256 .f32) (main_arg11 : FVec F S6x256x120 .f32) (main_arg12 : FVec F S6x120 .f32) (main_arg13 : FVec F S6x128x128 .f32) (main_arg14 : FVec F S6x128 .f32) (main_arg15 : FVec F S6x128x64 .f32) (main_arg16 : FVec F S6x64 .f32) (main_arg17 : FVec F S6x64x1 .f32) (main_arg18 : FVec F S6x1 .f32) : IVec S_ 1 :=
  let main_v0 : FVec F S4096x6x128 .f32 := Host.absf main_arg0
  let main_cst : FVec F S_ .f32 := constant S_ .f32 0x7F800000#32
  let main_v1 : FVec F S4096x6x128 .f32 := broadcastInDim S4096x6x128 ![] bcast_S_S4096x6x128 main_cst
  let main_v2 : IVec S4096x6x128 1 := cmpf .olt main_v0 main_v1
  let main_c : IVec S_ 1 := constantI S_ 1 1#1
  let main_v3 : IVec S_ 1 := (fun x v => Host.reduce IntOp.andi x v reducesTo_S4096x6x128_S_d0_1_2 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_v13 main_v16
-- ==== Kernel.lean ====
abbrev S4096x6x128 : Shape := ⟨3, ![4096, 6, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x6 : Shape := ⟨2, ![128, 6]⟩
abbrev S6 : Shape := ⟨1, ![6]⟩
abbrev S6x128x256 : Shape := ⟨3, ![6, 128, 256]⟩
abbrev S6x256 : Shape := ⟨2, ![6, 256]⟩
abbrev S6x256x256 : Shape := ⟨3, ![6, 256, 256]⟩
abbrev S6x256x120 : Shape := ⟨3, ![6, 256, 120]⟩
abbrev S6x120 : Shape := ⟨2, ![6, 120]⟩
abbrev S6x128x128 : Shape := ⟨3, ![6, 128, 128]⟩
abbrev S6x128 : Shape := ⟨2, ![6, 128]⟩
abbrev S6x128x64 : Shape := ⟨3, ![6, 128, 64]⟩
abbrev S6x64 : Shape := ⟨2, ![6, 64]⟩
abbrev S6x64x1 : Shape := ⟨3, ![6, 64, 1]⟩
abbrev S6x1 : Shape := ⟨2, ![6, 1]⟩
abbrev S24576x128 : Shape := ⟨2, ![24576, 128]⟩
abbrev S1x256 : Shape := ⟨2, ![1, 256]⟩
abbrev S1x128 : Shape := ⟨2, ![1, 128]⟩
abbrev S1x6 : Shape := ⟨2, ![1, 6]⟩
abbrev S24576x120 : Shape := ⟨2, ![24576, 120]⟩
abbrev S24576x1 : Shape := ⟨2, ![24576, 1]⟩
abbrev S24576x6 : Shape := ⟨2, ![24576, 6]⟩
abbrev S24x1x6 : Shape := ⟨3, ![24, 1, 6]⟩
abbrev S1024x128 : Shape := ⟨2, ![1024, 128]⟩
abbrev S1024x120 : Shape := ⟨2, ![1024, 120]⟩
abbrev S1024x1 : Shape := ⟨2, ![1024, 1]⟩
abbrev S1024x6 : Shape := ⟨2, ![1024, 6]⟩
abbrev S1x1x6 : Shape := ⟨3, ![1, 1, 6]⟩
abbrev S1024x256 : Shape := ⟨2, ![1024, 256]⟩
abbrev S1024 : Shape := ⟨1, ![1024]⟩
abbrev S1x128x256 : Shape := ⟨3, ![1, 128, 256]⟩
abbrev S1x256x256 : Shape := ⟨3, ![1, 256, 256]⟩
abbrev S256x256 : Shape := ⟨2, ![256, 256]⟩
abbrev S1x256x120 : Shape := ⟨3, ![1, 256, 120]⟩
abbrev S256x120 : Shape := ⟨2, ![256, 120]⟩
abbrev S1x120 : Shape := ⟨2, ![1, 120]⟩
abbrev S120 : Shape := ⟨1, ![120]⟩
abbrev S1x128x128 : Shape := ⟨3, ![1, 128, 128]⟩
abbrev S128x128 : Shape := ⟨2, ![128, 128]⟩
abbrev S1x128x64 : Shape := ⟨3, ![1, 128, 64]⟩
abbrev S128x64 : Shape := ⟨2, ![128, 64]⟩
abbrev S1024x64 : Shape := ⟨2, ![1024, 64]⟩
abbrev S1x64 : Shape := ⟨2, ![1, 64]⟩
abbrev S64 : Shape := ⟨1, ![64]⟩
abbrev S1x64x1 : Shape := ⟨3, ![1, 64, 1]⟩
abbrev S1x1 : Shape := ⟨2, ![1, 1]⟩
abbrev S4096x6x60x2 : Shape := ⟨4, ![4096, 6, 60, 2]⟩
abbrev S4096x6 : Shape := ⟨2, ![4096, 6]⟩
abbrev S4096x6x6 : Shape := ⟨3, ![4096, 6, 6]⟩
abbrev S24x6 : Shape := ⟨2, ![24, 6]⟩
abbrev S_ : Shape := ⟨0, ![]⟩

abbrev nBuf : Space → Nat
  | .hbm => 61
  | .vmem => 28
  | .smem => 0
  | _ => 0

abbrev bufTy : (tb : Table) → Fin (tcTables nBuf tb) → BufTy
  | .hbm, ⟨0, _⟩ => ⟨S4096x6x128, .f32⟩
  | .hbm, ⟨1, _⟩ => ⟨S128x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128x6, .f32⟩
  | .hbm, ⟨6, _⟩ => ⟨S6, .f32⟩
  | .hbm, ⟨7, _⟩ => ⟨S6x128x256, .f32⟩
  | .hbm, ⟨8, _⟩ => ⟨S6x256, .f32⟩
  | .hbm, ⟨9, _⟩ => ⟨S6x256x256, .f32⟩
  | .hbm, ⟨10, _⟩ => ⟨S6x256, .f32⟩
  | .hbm, ⟨11, _⟩ => ⟨S6x256x120, .f32⟩
  | .hbm, ⟨12, _⟩ => ⟨S6x120, .f32⟩
  | .hbm, ⟨13, _⟩ => ⟨S6x128x128, .f32⟩
  | .hbm, ⟨14, _⟩ => ⟨S6x128, .f32⟩
  | .hbm, ⟨15, _⟩ => ⟨S6x128x64, .f32⟩
  | .hbm, ⟨16, _⟩ => ⟨S6x64, .f32⟩
  | .hbm, ⟨17, _⟩ => ⟨S6x64x1, .f32⟩
  | .hbm, ⟨18, _⟩ => ⟨S6x1, .f32⟩
  | .hbm, ⟨19, _⟩ => ⟨S24576x128, .f32⟩
  | .hbm, ⟨20, _⟩ => ⟨S1x256, .f32⟩
  | .hbm, ⟨21, _⟩ => ⟨S1x128, .f32⟩
  | .hbm, ⟨22, _⟩ => ⟨S1x6, .f32⟩
  | .hbm, ⟨23, _⟩ => ⟨S24576x120, .f32⟩
  | .hbm, ⟨24, _⟩ => ⟨S24576x1, .f32⟩
  | .hbm, ⟨25, _⟩ => ⟨S24576x6, .f32⟩
  | .hbm, ⟨26, _⟩ => ⟨S24x1x6, .f32⟩
  | .hbm, ⟨27, _⟩ => ⟨S4096x6x60x2, .f32⟩
  | .hbm, ⟨28, _⟩ => ⟨S4096x6, .f32⟩
  | .hbm, ⟨29, _⟩ => ⟨S4096x6x6, .f32⟩
  | .hbm, ⟨30, _⟩ => ⟨S24x6, .f32⟩
  | .hbm, ⟨31, _⟩ => ⟨S_, .f32⟩
  | .hbm, ⟨32, _⟩ => ⟨S6, .f32⟩
  | .hbm, ⟨33, _⟩ => ⟨S_, .f32⟩
  | .hbm, ⟨34, _⟩ => ⟨S6, .f32⟩
  | .hbm, ⟨35, _⟩ => ⟨S6, .f32⟩
  | .hbm, ⟨36, _⟩ => ⟨S_, .f32⟩
  | .hbm, ⟨37, _⟩ => ⟨S6, .f32⟩
  | .hbm, ⟨38, _⟩ => ⟨S6, .f32⟩
  | .hbm, ⟨39, _⟩ => ⟨S6, .f32⟩
  | .hbm, ⟨40, _⟩ => ⟨S6, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S6, .f32⟩
  | .hbm, ⟨49, _⟩ => ⟨S_, .f32⟩
  | .hbm, ⟨50, _⟩ => ⟨S6, .f32⟩
  | .hbm, ⟨51, _⟩ => ⟨S6, .f32⟩
  | .hbm, ⟨52, _⟩ => ⟨S6, .f32⟩
  | .hbm, ⟨53, _⟩ => ⟨S6, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S128x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S128x6, .f32⟩
  | .local _ .vmem, ⟨7, _⟩ => ⟨S1x6, .f32⟩
  | .local _ .vmem, ⟨8, _⟩ => ⟨S6x128x256, .f32⟩
  | .local _ .vmem, ⟨9, _⟩ => ⟨S6x256, .f32⟩
  | .local _ .vmem, ⟨10, _⟩ => ⟨S6x256x256, .f32⟩
  | .local _ .vmem, ⟨11, _⟩ => ⟨S6x256, .f32⟩
  | .local _ .vmem, ⟨12, _⟩ => ⟨S6x256x120, .f32⟩
  | .local _ .vmem, ⟨13, _⟩ => ⟨S6x120, .f32⟩
  | .local _ .vmem, ⟨14, _⟩ => ⟨S6x128x128, .f32⟩
  | .local _ .vmem, ⟨15, _⟩ => ⟨S6x128, .f32⟩
  | .local _ .vmem, ⟨16, _⟩ => ⟨S6x128x64, .f32⟩
  | .local _ .vmem, ⟨17, _⟩ => ⟨S6x64, .f32⟩
  | .local _ .vmem, ⟨18, _⟩ => ⟨S6x64x1, .f32⟩
  | .local _ .vmem, ⟨19, _⟩ => ⟨S6x1, .f32⟩
  | .local _ .vmem, ⟨20, _⟩ => ⟨S1024x120, .f32⟩
  | .local _ .vmem, ⟨21, _⟩ => ⟨S1024x120, .f32⟩
  | .local _ .vmem, ⟨22, _⟩ => ⟨S1024x1, .f32⟩
  | .local _ .vmem, ⟨23, _⟩ => ⟨S1024x1, .f32⟩
  | .local _ .vmem, ⟨24, _⟩ => ⟨S1024x6, .f32⟩
  | .local _ .vmem, ⟨25, _⟩ => ⟨S1024x6, .f32⟩
  | .local _ .vmem, ⟨26, _⟩ => ⟨S1x1x6, .f32⟩
  | .local _ .vmem, ⟨27, _⟩ => ⟨S1x1x6, .f32⟩
  | _, _ => ⟨S4096x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4_0 : Ref sig .tc := ⟨.hbm, 23, rfl⟩
abbrev main_v4_1 : Ref sig .tc := ⟨.hbm, 24, rfl⟩
abbrev main_v4_2 : Ref sig .tc := ⟨.hbm, 25, rfl⟩
abbrev main_v4_3 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_cst_0 : Ref sig .tc := ⟨.hbm, 33, rfl⟩
abbrev main_v10 : Ref sig .tc := ⟨.hbm, 34, rfl⟩
abbrev main_v11 : Ref sig .tc := ⟨.hbm, 35, rfl⟩
abbrev main_cst_1 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_3 : Ref sig .tc := ⟨.hbm, 45, rfl⟩
abbrev main_v19 : Ref sig .tc := ⟨.hbm, 46, rfl⟩
abbrev main_cst_4 : Ref sig .tc := ⟨.hbm, 47, rfl⟩
abbrev main_v20 : Ref sig .tc := ⟨.hbm, 48, rfl⟩
abbrev main_cst_5 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_6 : Ref sig .tc := ⟨.hbm, 54, rfl⟩
abbrev main_v25 : Ref sig .tc := ⟨.hbm, 55, rfl⟩
abbrev main_cst_7 : Ref sig .tc := ⟨.hbm, 56, rfl⟩
abbrev main_v26 : Ref sig .tc := ⟨.hbm, 57, rfl⟩
abbrev main_cst_8 : Ref sig .tc := ⟨.hbm, 58, rfl⟩
abbrev main_v27 : Ref sig .tc := ⟨.hbm, 59, rfl⟩
abbrev main_v28 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_stg20_0 : Ref sig .tc := ⟨.vmem, 22, rfl⟩
abbrev cc0_stg20_1 : Ref sig .tc := ⟨.vmem, 23, rfl⟩
abbrev cc0_stg21_0 : Ref sig .tc := ⟨.vmem, 24, rfl⟩
abbrev cc0_stg21_1 : Ref sig .tc := ⟨.vmem, 25, rfl⟩
abbrev cc0_stg22_0 : Ref sig .tc := ⟨.vmem, 26, rfl⟩
abbrev cc0_stg22_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21
abbrev cc0_sem20_0 : DmaSem sig := 22
abbrev cc0_sem20_1 : DmaSem sig := 23
abbrev cc0_sem21_0 : DmaSem sig := 24
abbrev cc0_sem21_1 : DmaSem sig := 25
abbrev cc0_sem22_0 : DmaSem sig := 26
abbrev cc0_sem22_1 : DmaSem sig := 27

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S6x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6x256x120 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S6x120 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S6x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S6x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S6x128x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S6x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S6x64x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S6x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1024x120 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x1 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1024x6 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x6 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== KernelIdeal.lean ====
variable {F : FTy → Type} [FloatOps F] [Named F]
def κ : String → Option EReal := fun
  | "sqrt_half" => some ((Real.sqrt (1 / 2) : ℝ) : EReal)
  | _ => none
-- ==== ReferenceIdeal.lean ====
abbrev S4096x6x128 : Shape := ⟨3, ![4096, 6, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x6 : Shape := ⟨2, ![128, 6]⟩
abbrev S6 : Shape := ⟨1, ![6]⟩
abbrev S6x128x256 : Shape := ⟨3, ![6, 128, 256]⟩
abbrev S6x256 : Shape := ⟨2, ![6, 256]⟩
abbrev S6x256x256 : Shape := ⟨3, ![6, 256, 256]⟩
abbrev S6x256x120 : Shape := ⟨3, ![6, 256, 120]⟩
abbrev S6x120 : Shape := ⟨2, ![6, 120]⟩
abbrev S6x128x128 : Shape := ⟨3, ![6, 128, 128]⟩
abbrev S6x128 : Shape := ⟨2, ![6, 128]⟩
abbrev S6x128x64 : Shape := ⟨3, ![6, 128, 64]⟩
abbrev S6x64 : Shape := ⟨2, ![6, 64]⟩
abbrev S6x64x1 : Shape := ⟨3, ![6, 64, 1]⟩
abbrev S6x1 : Shape := ⟨2, ![6, 1]⟩
abbrev S24576x128 : Shape := ⟨2, ![24576, 128]⟩
abbrev S24576x256 : Shape := ⟨2, ![24576, 256]⟩
abbrev S1x256 : Shape := ⟨2, ![1, 256]⟩
abbrev S_ : Shape := ⟨0, ![]⟩
abbrev S1x128 : Shape := ⟨2, ![1, 128]⟩
abbrev S24576x6 : Shape := ⟨2, ![24576, 6]⟩
abbrev S1x6 : Shape := ⟨2, ![1, 6]⟩
abbrev S24576 : Shape := ⟨1, ![24576]⟩
abbrev S24576x1 : Shape := ⟨2, ![24576, 1]⟩
abbrev S24576x2 : Shape := ⟨2, ![24576, 2]⟩
abbrev S6x256x24576 : Shape := ⟨3, ![6, 256, 24576]⟩
abbrev S6x24576x256 : Shape := ⟨3, ![6, 24576, 256]⟩
abbrev S6x1x256 : Shape := ⟨3, ![6, 1, 256]⟩
abbrev S6x24576x120 : Shape := ⟨3, ![6, 24576, 120]⟩
abbrev S6x1x120 : Shape := ⟨3, ![6, 1, 120]⟩
abbrev S6x128x24576 : Shape := ⟨3, ![6, 128, 24576]⟩
abbrev S6x24576x128 : Shape := ⟨3, ![6, 24576, 128]⟩
abbrev S6x1x128 : Shape := ⟨3, ![6, 1, 128]⟩
abbrev S6x24576x64 : Shape := ⟨3, ![6, 24576, 64]⟩
abbrev S6x1x64 : Shape := ⟨3, ![6, 1, 64]⟩
abbrev S6x24576x1 : Shape := ⟨3, ![6, 24576, 1]⟩
abbrev S6x1x1 : Shape := ⟨3, ![6, 1, 1]⟩
abbrev S6x24576 : Shape := ⟨2, ![6, 24576]⟩
abbrev S24576x120 : Shape := ⟨2, ![24576, 120]⟩
abbrev S4096x6x60x2 : Shape := ⟨4, ![4096, 6, 60, 2]⟩
abbrev S4096x6 : Shape := ⟨2, ![4096, 6]⟩
abbrev S4096x6x6 : Shape := ⟨3, ![4096, 6, 6]⟩

abbrev nBuf : Space → Nat
  | .hbm => 280
  | .vmem => 0
  | .smem => 0
  | _ => 0

abbrev hbmTy0_0 (i : Nat) : BufTy := match i % 128 with
  | 0 => ⟨S4096x6x128, .f32⟩
  | 1 => ⟨S128x256, .f32⟩
  | 2 => ⟨S256, .f32⟩
  | 3 => ⟨S256x128, .f32⟩
  | 4 => ⟨S128, .f32⟩
  | 5 => ⟨S128x6, .f32⟩
  | 6 => ⟨S6, .f32⟩
  | 7 => ⟨S6x128x256, .f32⟩
  | 8 => ⟨S6x256, .f32⟩
  | 9 => ⟨S6x256x256, .f32⟩
  | 10 => ⟨S6x256, .f32⟩
  | 11 => ⟨S6x256x120, .f32⟩
  | 12 => ⟨S6x120, .f32⟩
  | 13 => ⟨S6x128x128, .f32⟩
  | 14 => ⟨S6x128, .f32⟩
  | 15 => ⟨S6x128x64, .f32⟩
  | 16 => ⟨S6x64, .f32⟩
  | 17 => ⟨S6x64x1, .f32⟩
  | 18 => ⟨S6x1, .f32⟩
  | 19 => ⟨S24576x128, .f32⟩
  | 20 => ⟨S24576x256, .f32⟩
  | 21 => ⟨S1x256, .f32⟩
  | 22 => ⟨S24576x256, .f32⟩
  | 23 => ⟨S24576x256, .f32⟩
  | 24 => ⟨S_, .f32⟩
  | 25 => ⟨S24576x256, .f32⟩
  | 26 => ⟨S24576x256, .f32⟩
  | 27 => ⟨S24576x256, .f32⟩
  | 28 => ⟨S_, .f32⟩
  | 29 => ⟨S_, .f32⟩
  | 30 => ⟨S24576x256, .f32⟩
  | 31 => ⟨S24576x256, .f32⟩
  | 32 => ⟨S24576x256, .f32⟩
  | 33 => ⟨S24576x256, .f32⟩
  | 34 => ⟨S24576x128, .f32⟩
  | 35 => ⟨S1x128, .f32⟩
  | 36 => ⟨S24576x128, .f32⟩
  | 37 => ⟨S24576x128, .f32⟩
  | 38 => ⟨S_, .f32⟩
  | 39 => ⟨S24576x128, .f32⟩
  | 40 => ⟨S24576x128, .f32⟩
  | 41 => ⟨S24576x128, .f32⟩
  | 42 => ⟨S_, .f32⟩
  | 43 => ⟨S_, .f32⟩
  | 44 => ⟨S24576x128, .f32⟩
  | 45 => ⟨S24576x128, .f32⟩
  | 46 => ⟨S24576x128, .f32⟩
  | 47 => ⟨S24576x128, .f32⟩
  | 48 => ⟨S24576x6, .f32⟩
  | 49 => ⟨S1x6, .f32⟩
  | 50 => ⟨S24576x6, .f32⟩
  | 51 => ⟨S24576x6, .f32⟩
  | 52 => ⟨S_, .f32⟩
  | 53 => ⟨S24576, .f32⟩
  | 54 => ⟨S_, .f32⟩
  | 55 => ⟨S24576, .f32⟩
  | 56 => ⟨S24576, .f32⟩
  | 57 => ⟨S24576x1, .f32⟩
  | 58 => ⟨S24576x6, .f32⟩
  | 59 => ⟨S24576x6, .f32⟩
  | 60 => ⟨S24576x6, .f32⟩
  | 61 => ⟨S_, .f32⟩
  | 62 => ⟨S24576, .f32⟩
  | 63 => ⟨S24576x1, .f32⟩
  | 64 => ⟨S24576x6, .f32⟩
  | 65 => ⟨S24576x6, .f32⟩
  | 66 => ⟨S24576x2, .f32⟩
  | 67 => ⟨S24576x2, .i32⟩
  | 68 => ⟨S_, .f32⟩
  | 69 => ⟨S24576, .f32⟩
  | 70 => ⟨S_, .f32⟩
  | 71 => ⟨S24576, .f32⟩
  | 72 => ⟨S24576, .f32⟩
  | 73 => ⟨S24576x1, .f32⟩
  | 74 => ⟨S24576x2, .f32⟩
  | 75 => ⟨S24576x2, .f32⟩
  | 76 => ⟨S24576x2, .f32⟩
  | 77 => ⟨S_, .f32⟩
  | 78 => ⟨S24576, .f32⟩
  | 79 => ⟨S24576x1, .f32⟩
  | 80 => ⟨S24576x2, .f32⟩
  | 81 => ⟨S24576x2, .f32⟩
  | 82 => ⟨S6x256x24576, .f32⟩
  | 83 => ⟨S6x24576x256, .f32⟩
  | 84 => ⟨S6x1x256, .f32⟩
  | 85 => ⟨S6x24576x256, .f32⟩
  | 86 => ⟨S6x24576x256, .f32⟩
  | 87 => ⟨S_, .f32⟩
  | 88 => ⟨S6x24576x256, .f32⟩
  | 89 => ⟨S6x24576x256, .f32⟩
  | 90 => ⟨S6x24576x256, .f32⟩
  | 91 => ⟨S_, .f32⟩
  | 92 => ⟨S_, .f32⟩
  | 93 => ⟨S6x24576x256, .f32⟩
  | 94 => ⟨S6x24576x256, .f32⟩
  | 95 => ⟨S6x24576x256, .f32⟩
  | 96 => ⟨S6x24576x256, .f32⟩
  | 97 => ⟨S6x24576x256, .f32⟩
  | 98 => ⟨S6x1x256, .f32⟩
  | 99 => ⟨S6x24576x256, .f32⟩
  | 100 => ⟨S6x24576x256, .f32⟩
  | 101 => ⟨S_, .f32⟩
  | 102 => ⟨S6x24576x256, .f32⟩
  | 103 => ⟨S6x24576x256, .f32⟩
  | 104 => ⟨S6x24576x256, .f32⟩
  | 105 => ⟨S_, .f32⟩
  | 106 => ⟨S_, .f32⟩
  | 107 => ⟨S6x24576x256, .f32⟩
  | 108 => ⟨S6x24576x256, .f32⟩
  | 109 => ⟨S6x24576x256, .f32⟩
  | 110 => ⟨S6x24576x256, .f32⟩
  | 111 => ⟨S6x24576x120, .f32⟩
  | 112 => ⟨S6x1x120, .f32⟩
  | 113 => ⟨S6x24576x120, .f32⟩
  | 114 => ⟨S6x24576x120, .f32⟩
  | 115 => ⟨S6x128x24576, .f32⟩
  | 116 => ⟨S6x24576x128, .f32⟩
  | 117 => ⟨S6x1x128, .f32⟩
  | 118 => ⟨S6x24576x128, .f32⟩
  | 119 => ⟨S6x24576x128, .f32⟩
  | 120 => ⟨S_, .f32⟩
  | 121 => ⟨S6x24576x128, .f32⟩
  | 122 => ⟨S6x24576x128, .f32⟩
  | 123 => ⟨S6x24576x128, .f32⟩
  | 124 => ⟨S_, .f32⟩
  | 125 => ⟨S_, .f32⟩
  | 126 => ⟨S6x24576x128, .f32⟩
  | 127 => ⟨S6x24576x128, .f32⟩
  | _ => ⟨S4096x6x128, .f32⟩

abbrev hbmTy0_1 (i : Nat) : BufTy := match i % 128 with
  | 0 => ⟨S6x24576x128, .f32⟩
  | 1 => ⟨S6x24576x128, .f32⟩
  | 2 => ⟨S6x24576x64, .f32⟩
  | 3 => ⟨S6x1x64, .f32⟩
  | 4 => ⟨S6x24576x64, .f32⟩
  | 5 => ⟨S6x24576x64, .f32⟩
  | 6 => ⟨S_, .f32⟩
  | 7 => ⟨S6x24576x64, .f32⟩
  | 8 => ⟨S6x24576x64, .f32⟩
  | 9 => ⟨S6x24576x64, .f32⟩
  | 10 => ⟨S_, .f32⟩
  | 11 => ⟨S_, .f32⟩
  | 12 => ⟨S6x24576x64, .f32⟩
  | 13 => ⟨S6x24576x64, .f32⟩
  | 14 => ⟨S6x24576x64, .f32⟩
  | 15 => ⟨S6x24576x64, .f32⟩
  | 16 => ⟨S6x24576x1, .f32⟩
  | 17 => ⟨S6x1x1, .f32⟩
  | 18 => ⟨S6x24576x1, .f32⟩
  | 19 => ⟨S6x24576x1, .f32⟩
  | 20 => ⟨S6x24576, .f32⟩
  | 21 => ⟨S24576, .i32⟩
  | 22 => ⟨S_, .f32⟩
  | 23 => ⟨S24576x120, .f32⟩
  | 24 => ⟨S_, .f32⟩
  | 25 => ⟨S24576, .f32⟩
  | 26 => ⟨S24576x1, .i32⟩
  | 27 => ⟨S24576, .i32⟩
  | 28 => ⟨S24576x1, .f32⟩
  | 29 => ⟨S24576, .f32⟩
  | 30 => ⟨S24576x1, .f32⟩
  | 31 => ⟨S_, .i32⟩
  | 32 => ⟨S24576, .i32⟩
  | 33 => ⟨S24576, .i1⟩
  | 34 => ⟨S_, .i32⟩
  | 35 => ⟨S24576, .i32⟩
  | 36 => ⟨S24576, .i32⟩
  | 37 => ⟨S24576, .i32⟩
  | 38 => ⟨S_, .i32⟩
  | 39 => ⟨S24576, .i32⟩
  | 40 => ⟨S24576, .i1⟩
  | 41 => ⟨S_, .i32⟩
  | 42 => ⟨S24576, .i32⟩
  | 43 => ⟨S24576, .i32⟩
  | 44 => ⟨S24576, .i32⟩
  | 45 => ⟨S24576x1, .i32⟩
  | 46 => ⟨S24576x1, .i32⟩
  | 47 => ⟨S24576x2, .i32⟩
  | 48 => ⟨S24576x120, .f32⟩
  | 49 => ⟨S24576x120, .f32⟩
  | 50 => ⟨S24576x120, .f32⟩
  | 51 => ⟨S24576x120, .f32⟩
  | 52 => ⟨S_, .i32⟩
  | 53 => ⟨S24576, .i32⟩
  | 54 => ⟨S24576, .i1⟩
  | 55 => ⟨S_, .i32⟩
  | 56 => ⟨S24576, .i32⟩
  | 57 => ⟨S24576, .i32⟩
  | 58 => ⟨S24576, .i32⟩
  | 59 => ⟨S_, .i32⟩
  | 60 => ⟨S24576, .i32⟩
  | 61 => ⟨S24576, .i1⟩
  | 62 => ⟨S_, .i32⟩
  | 63 => ⟨S24576, .i32⟩
  | 64 => ⟨S24576, .i32⟩
  | 65 => ⟨S24576, .i32⟩
  | 66 => ⟨S24576x1, .i32⟩
  | 67 => ⟨S24576x1, .i32⟩
  | 68 => ⟨S24576x2, .i32⟩
  | 69 => ⟨S24576, .f32⟩
  | 70 => ⟨S24576, .f32⟩
  | 71 => ⟨S24576, .f32⟩
  | 72 => ⟨S24576x1, .i32⟩
  | 73 => ⟨S24576, .i32⟩
  | 74 => ⟨S24576x1, .f32⟩
  | 75 => ⟨S24576, .f32⟩
  | 76 => ⟨S24576x1, .f32⟩
  | 77 => ⟨S_, .i32⟩
  | 78 => ⟨S24576, .i32⟩
  | 79 => ⟨S24576, .i1⟩
  | 80 => ⟨S_, .i32⟩
  | 81 => ⟨S24576, .i32⟩
  | 82 => ⟨S24576, .i32⟩
  | 83 => ⟨S24576, .i32⟩
  | 84 => ⟨S_, .i32⟩
  | 85 => ⟨S24576, .i32⟩
  | 86 => ⟨S24576, .i1⟩
  | 87 => ⟨S_, .i32⟩
  | 88 => ⟨S24576, .i32⟩
  | 89 => ⟨S24576, .i32⟩
  | 90 => ⟨S24576, .i32⟩
  | 91 => ⟨S24576x1, .i32⟩
  | 92 => ⟨S24576x1, .i32⟩
  | 93 => ⟨S24576x2, .i32⟩
  | 94 => ⟨S24576x120, .f32⟩
  | 95 => ⟨S24576x120, .f32⟩
  | 96 => ⟨S24576x120, .f32⟩
  | 97 => ⟨S24576x120, .f32⟩
  | 98 => ⟨S_, .i32⟩
  | 99 => ⟨S24576, .i32⟩
  | 100 => ⟨S24576, .i1⟩
  | 101 => ⟨S_, .i32⟩
  | 102 => ⟨S24576, .i32⟩
  | 103 => ⟨S24576, .i32⟩
  | 104 => ⟨S24576, .i32⟩
  | 105 => ⟨S_, .i32⟩
  | 106 => ⟨S24576, .i32⟩
  | 107 => ⟨S24576, .i1⟩
  | 108 => ⟨S_, .i32⟩
  | 109 => ⟨S24576, .i32⟩
  | 110 => ⟨S24576, .i32⟩
  | 111 => ⟨S24576, .i32⟩
  | 112 => ⟨S24576x1, .i32⟩
  | 113 => ⟨S24576x1, .i32⟩
  | 114 => ⟨S24576x2, .i32⟩
  | 115 => ⟨S24576, .f32⟩
  | 116 => ⟨S24576, .f32⟩
  | 117 => ⟨S24576, .f32⟩
  | 118 => ⟨S4096x6x60x2, .f32⟩
  | 119 => ⟨S4096x6, .f32⟩
  | 120 => ⟨S4096x6x6, .f32⟩
  | 121 => ⟨S24576x6, .f32⟩
  | 122 => ⟨S_, .f32⟩
  | 123 => ⟨S6, .f32⟩
  | 124 => ⟨S_, .f32⟩
  | 125 => ⟨S6, .f32⟩
  | 126 => ⟨S6, .f32⟩
  | 127 => ⟨S_, .f32⟩
  | _ => ⟨S4096x6x128, .f32⟩

abbrev hbmTy0_2 (i : Nat) : BufTy := match i % 128 with
  | 0 => ⟨S6, .f32⟩
  | 1 => ⟨S6, .f32⟩
  | 2 => ⟨S6, .f32⟩
  | 3 => ⟨S6, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S6, .f32⟩
  | 12 => ⟨S_, .f32⟩
  | 13 => ⟨S6, .f32⟩
  | 14 => ⟨S6, .f32⟩
  | 15 => ⟨S6, .f32⟩
  | 16 => ⟨S6, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | _ => ⟨S4096x6x128, .f32⟩

abbrev hbmTy (i : Nat) : BufTy := match i / 128 with
  | 0 => hbmTy0_0 i
  | 1 => hbmTy0_1 i
  | 2 => hbmTy0_2 i
  | _ => ⟨S4096x6x128, .f32⟩

abbrev bufTy : (tb : Table) → Fin (tcTables nBuf tb) → BufTy
  | .hbm, ⟨i, _⟩ => hbmTy i
  | _, _ => ⟨S4096x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_values : Ref sig .tc := ⟨.hbm, 66, rfl⟩
abbrev main_indices : Ref sig .tc := ⟨.hbm, 67, rfl⟩
abbrev main_cst_6 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_10 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_11 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_12 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_13 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_14 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_15 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_16 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_17 : Ref sig .tc := ⟨.hbm, 150, rfl⟩
abbrev main_v111 : Ref sig .tc := ⟨.hbm, 151, rfl⟩
abbrev main_cst_18 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_c : Ref sig .tc := ⟨.hbm, 159, rfl⟩
abbrev main_v118 : Ref sig .tc := ⟨.hbm, 160, rfl⟩
abbrev main_v119 : Ref sig .tc := ⟨.hbm, 161, rfl⟩
abbrev main_c_19 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_c_20 : Ref sig .tc := ⟨.hbm, 166, rfl⟩
abbrev main_v123 : Ref sig .tc := ⟨.hbm, 167, rfl⟩
abbrev main_v124 : Ref sig .tc := ⟨.hbm, 168, rfl⟩
abbrev main_c_21 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_c_22 : Ref sig .tc := ⟨.hbm, 180, rfl⟩
abbrev main_v135 : Ref sig .tc := ⟨.hbm, 181, rfl⟩
abbrev main_v136 : Ref sig .tc := ⟨.hbm, 182, rfl⟩
abbrev main_c_23 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_c_24 : Ref sig .tc := ⟨.hbm, 187, rfl⟩
abbrev main_v140 : Ref sig .tc := ⟨.hbm, 188, rfl⟩
abbrev main_v141 : Ref sig .tc := ⟨.hbm, 189, rfl⟩
abbrev main_c_25 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_c_26 : Ref sig .tc := ⟨.hbm, 205, rfl⟩
abbrev main_v156 : Ref sig .tc := ⟨.hbm, 206, rfl⟩
abbrev main_v157 : Ref sig .tc := ⟨.hbm, 207, rfl⟩
abbrev main_c_27 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_c_28 : Ref sig .tc := ⟨.hbm, 212, rfl⟩
abbrev main_v161 : Ref sig .tc := ⟨.hbm, 213, rfl⟩
abbrev main_v162 : Ref sig .tc := ⟨.hbm, 214, rfl⟩
abbrev main_c_29 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_c_30 : Ref sig .tc := ⟨.hbm, 226, rfl⟩
abbrev main_v173 : Ref sig .tc := ⟨.hbm, 227, rfl⟩
abbrev main_v174 : Ref sig .tc := ⟨.hbm, 228, rfl⟩
abbrev main_c_31 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_c_32 : Ref sig .tc := ⟨.hbm, 233, rfl⟩
abbrev main_v178 : Ref sig .tc := ⟨.hbm, 234, rfl⟩
abbrev main_v179 : Ref sig .tc := ⟨.hbm, 235, rfl⟩
abbrev main_c_33 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_cst_34 : Ref sig .tc := ⟨.hbm, 250, rfl⟩
abbrev main_v193 : Ref sig .tc := ⟨.hbm, 251, rfl⟩
abbrev main_cst_35 : Ref sig .tc := ⟨.hbm, 252, rfl⟩
abbrev main_v194 : Ref sig .tc := ⟨.hbm, 253, rfl⟩
abbrev main_v195 : Ref sig .tc := ⟨.hbm, 254, rfl⟩
abbrev main_cst_36 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_cst_37 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_cst_38 : Ref sig .tc := ⟨.hbm, 264, rfl⟩
abbrev main_v203 : Ref sig .tc := ⟨.hbm, 265, rfl⟩
abbrev main_cst_39 : Ref sig .tc := ⟨.hbm, 266, rfl⟩
abbrev main_v204 : Ref sig .tc := ⟨.hbm, 267, rfl⟩
abbrev main_cst_40 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_cst_41 : Ref sig .tc := ⟨.hbm, 273, rfl⟩
abbrev main_v209 : Ref sig .tc := ⟨.hbm, 274, rfl⟩
abbrev main_cst_42 : Ref sig .tc := ⟨.hbm, 275, rfl⟩
abbrev main_v210 : Ref sig .tc := ⟨.hbm, 276, rfl⟩
abbrev main_cst_43 : Ref sig .tc := ⟨.hbm, 277, rfl⟩
abbrev main_v211 : Ref sig .tc := ⟨.hbm, 278, rfl⟩
abbrev main_v212 : Ref sig .tc := ⟨.hbm, 279, rfl⟩

abbrev nD : Nat := 1
abbrev τ : Topo := Topo.v7x

variable {F : FTy → Type} [FloatOps F]
-- ==== Proof.Spec.lean ====
/- The mathematics of the routed mixture, over plain functions and free of both programs: the exact gelu, a dense
   layer, the three-layer network, the softmax of six logits, the two greatest logits, and the mixture of six
   experts by the weights of those two. -/
module

public import Idealize.ShloMosaic.PureOps.Ideal.Laws
public import Mathlib.Data.EReal.Basic
public import Mathlib.Data.EReal.Operations

@[expose] public section

noncomputable section

namespace Cert.Moe

open Idealize.ShloMosaic

/-! ## Finite extended reals -/

/-- The extended real is a real number. -/
def Finite (v : EReal) : Prop := ∃ r : ℝ, v = (r : EReal)

theorem Finite.coe (r : ℝ) : Finite (r : EReal) := ⟨r, rfl⟩

theorem Finite.zero : Finite 0 := ⟨0, rfl⟩

theorem Finite.one : Finite 1 := ⟨1, rfl⟩

theorem Finite.add {u v : EReal} (hu : Finite u) (hv : Finite v) : Finite (u + v) := by
  obtain ⟨a, rfl⟩ := hu
  obtain ⟨b, rfl⟩ := hv
  exact ⟨a + b, (EReal.coe_add a b).symm⟩

theorem Finite.mul {u v : EReal} (hu : Finite u) (hv : Finite v) : Finite (u * v) := by
  obtain ⟨a, rfl⟩ := hu
  obtain ⟨b, rfl⟩ := hv
  exact ⟨a * b, (EReal.coe_mul a b).symm⟩

/-- A finite sum of real numbers is a real number. -/
theorem Finite.sum {n : ℕ} (f : Fin n → EReal) (h : ∀ k, Finite (f k)) : Finite (∑ k, f k) := by
  classical
  have key : ∀ s : Finset (Fin n), Finite (∑ k ∈ s, f k) := fun s => by
    induction s using Finset.induction_on with
    | empty => simpa using Finite.zero
    | insert a s ha ih => rw [Finset.sum_insert ha]; exact (h a).add ih
  exact key _

/-- A real number less itself is zero. -/
theorem Finite.sub_self {v : EReal} (hv : Finite v) : v - v = 0 := by
  obtain ⟨a, rfl⟩ := hv
  rw [← EReal.coe_sub, _root_.sub_self, EReal.coe_zero]

theorem Finite.bot_lt {v : EReal} (hv : Finite v) : ⊥ < v := by
  obtain ⟨a, rfl⟩ := hv
  exact EReal.bot_lt_coe a

/-- An absolute value below the top makes the extended real a real number. -/
theorem Finite.of_abs_lt {v : EReal} (h : max v (-v) < ⊤) : Finite v := by
  induction v with
  | bot => simp at h
  | top => simp at h
  | coe r => exact ⟨r, rfl⟩

/-- The error function is a real number everywhere. -/
theorem Finite.erf (v : EReal) : Finite (Ideal.erf v) := by
  induction v with
  | bot => exact ⟨-1, by show (-1 : EReal) = _; simp⟩
  | top => exact ⟨1, by show (1 : EReal) = _; simp⟩
  | coe r => exact ⟨_, rfl⟩

/-! ## The exact gelu -/

/-- One half, as the programs' literal denotes it. -/
def half : EReal := Ideal.ofBits .f32 0x3F000000#32

theorem half_eq : half = ((1 / 2 : ℝ) : EReal) := by
  unfold half
  simp only [Ideal.ofBits, Ideal.ieee]
  simp
  rw [← EReal.coe_mul]
  norm_num

/-- The root of one half. -/
def root : EReal := ((Real.sqrt (1 / 2) : ℝ) : EReal)

/-- The exact gelu, `v · ½ · (1 + erf (v · √½))`. -/
def gelu (v : EReal) : EReal := v * half * (1 + Ideal.erf (v * root))

/-- The root of one half taken when run is the number the constant names. -/
theorem sqrt_half : Ideal.sqrt half = root := by
  rw [half_eq]
  show (if (1 / 2 : ℝ) < 0 then ⊥ else ((Real.sqrt (1 / 2) : ℝ) : EReal)) = root
  rw [if_neg (by norm_num)]
  rfl

/-- The gelu by the complementary error function is the gelu by the error function. -/
theorem gelu_erfc (v : EReal) : half * v * Ideal.erfc (-v * Ideal.sqrt half) = gelu v := by
  rw [sqrt_half, EReal.neg_mul, Ideal.erfc_neg, mul_comm half v]
  rfl

theorem Finite.gelu {v : EReal} (hv : Finite v) : Finite (gelu v) := by
  have hh : Finite half := ⟨_, half_eq⟩
  exact (hv.mul hh).mul (Finite.one.add (Finite.erf _))

/-! ## Layers -/

/-- One output of a dense layer: `∑ₖ xₖ·wₖₙ + bₙ`. -/
def dense {K N : ℕ} (x : Fin K → EReal) (w : Fin K → Fin N → EReal) (b : Fin N → EReal) (n : Fin N) : EReal :=
  (∑ k, x k * w k n) + b n

/-- A dense layer and the gelu. -/
def layer {K N : ℕ} (x : Fin K → EReal) (w : Fin K → Fin N → EReal) (b : Fin N → EReal) (n : Fin N) : EReal :=
  gelu (dense x w b n)

/-- Three layers, the gelu after the first two. -/
def mlp {A B C D : ℕ} (x : Fin A → EReal) (w₁ : Fin A → Fin B → EReal) (b₁ : Fin B → EReal)
    (w₂ : Fin B → Fin C → EReal) (b₂ : Fin C → EReal) (w₃ : Fin C → Fin D → EReal) (b₃ : Fin D → EReal) :
    Fin D → EReal :=
  dense (layer (layer x w₁ b₁) w₂ b₂) w₃ b₃

theorem Finite.dense {K N : ℕ} {x : Fin K → EReal} {w : Fin K → Fin N → EReal} {b : Fin N → EReal}
    (hx : ∀ k, Finite (x k)) (hw : ∀ k n, Finite (w k n)) (hb : ∀ n, Finite (b n)) (n : Fin N) :
    Finite (dense x w b n) :=
  (Finite.sum _ fun k => (hx k).mul (hw k n)).add (hb n)

/-- Real inputs and parameters give real outputs. -/
theorem Finite.mlp {A B C D : ℕ} {x : Fin A → EReal} {w₁ : Fin A → Fin B → EReal} {b₁ : Fin B → EReal}
    {w₂ : Fin B → Fin C → EReal} {b₂ : Fin C → EReal} {w₃ : Fin C → Fin D → EReal} {b₃ : Fin D → EReal}
    (hx : ∀ k, Finite (x k)) (hw₁ : ∀ k n, Finite (w₁ k n)) (hb₁ : ∀ n, Finite (b₁ n))
    (hw₂ : ∀ k n, Finite (w₂ k n)) (hb₂ : ∀ n, Finite (b₂ n)) (hw₃ : ∀ k n, Finite (w₃ k n))
    (hb₃ : ∀ n, Finite (b₃ n)) (n : Fin D) : Finite (mlp x w₁ b₁ w₂ b₂ w₃ b₃ n) :=
  Finite.dense (fun k => Finite.gelu (Finite.dense (fun j => Finite.gelu (Finite.dense hx hw₁ hb₁ j)) hw₂ hb₂ k))
    hw₃ hb₃ n

/-! ## The softmax of six logits -/

/-- The greatest of six logits. -/
def peak (l : Fin 6 → EReal) : EReal := Finset.univ.fold max ⊥ l

/-- The softmax, every logit less the greatest. -/
def softmax (l : Fin 6 → EReal) (j : Fin 6) : EReal :=
  Ideal.div (Ideal.exp (l j - peak l)) (∑ k, Ideal.exp (l k - peak l))

/-! ## The two greatest logits -/

/-- `a` holds the greatest logit and `b` the greatest of the others, the lower position first among equals. -/
structure Top2 (l : Fin 6 → EReal) (a b : Fin 6) : Prop where
  ne : b ≠ a
  fst : ∀ j, l j ≤ l a
  fst_first : ∀ j, j < a → l j ≠ l a
  snd : ∀ j, j ≠ a → l j ≤ l b
  snd_first : ∀ j, j ≠ a → j < b → l j ≠ l b

theorem le_peak (l : Fin 6 → EReal) (j : Fin 6) : l j ≤ peak l :=
  (Finset.le_fold_max _).2 (Or.inr ⟨j, Finset.mem_univ j, le_rfl⟩)

theorem peak_le {l : Fin 6 → EReal} {c : EReal} (h : ∀ j, l j ≤ c) : peak l ≤ c :=
  (Finset.fold_max_le _).2 ⟨bot_le, fun j _ => h j⟩

/-- The greatest logit is the one at `a`. -/
theorem Top2.peak_eq {l : Fin 6 → EReal} {a b : Fin 6} (h : Top2 l a b) : peak l = l a :=
  le_antisymm (peak_le h.fst) (le_peak l a)

/-- The logits with the one at `a` struck out. -/
def struck (l : Fin 6 → EReal) (a j : Fin 6) : EReal := if j = a then ⊥ else l j

/-- The greatest of the logits left is the one at `b`. -/
theorem Top2.peak_struck {l : Fin 6 → EReal} {a b : Fin 6} (h : Top2 l a b) : peak (struck l a) = l b := by
  refine le_antisymm (peak_le fun j => ?_) ?_
  · unfold struck
    split_ifs with hj
    · exact bot_le
    · exact h.snd j hj
  · have := le_peak (struck l a) b
    rwa [struck, if_neg h.ne] at this

/-- The least position marked by a set that holds `a` and nothing before it is `a`, as 32-bit words. -/
theorem first_marked : ∀ (a : Fin 6) (c : Fin 6 → Bool), c a = true → (∀ j, j < a → c j = false) →
    Finset.univ.fold IntOp.minsi 2147483647#32 (fun j : Fin 6 => if c j = true then BitVec.ofNat 32 j.val else 6#32)
      = BitVec.ofNat 32 a.val := by
  decide +kernel

/-- The least position whose logit equals the greatest is `a`. -/
theorem Top2.first {l : Fin 6 → EReal} {a b : Fin 6} (h : Top2 l a b) :
    Finset.univ.fold IntOp.minsi 2147483647#32
        (fun j : Fin 6 => if l j = l a then BitVec.ofNat 32 j.val else 6#32)
      = BitVec.ofNat 32 a.val := by
  classical
  have := first_marked a (fun j => decide (l j = l a)) (by simp) (fun j hj => by simpa using h.fst_first j hj)
  simpa using this

/-- Among real logits with the one at `a` struck out, the least position equal to the greatest is `b`. -/
theorem Top2.second {l : Fin 6 → EReal} {a b : Fin 6} (h : Top2 l a b) (hl : ∀ j, Finite (l j)) :
    Finset.univ.fold IntOp.minsi 2147483647#32
        (fun j : Fin 6 => if struck l a j = l b then BitVec.ofNat 32 j.val else 6#32)
      = BitVec.ofNat 32 b.val := by
  classical
  have := first_marked b (fun j => decide (struck l a j = l b)) (by simp [struck, h.ne]) (fun j hj => by
    by_cases ha : j = a
    · simp [struck, ha, (hl b).bot_lt.ne]
    · simpa [struck, ha] using h.snd_first j ha hj)
  simpa using this

/-! ## The mixture -/

/-- The weight of the greatest logit in the softmax of the two: `1 / (1 + exp (u − v))`. -/
def weight₀ (v u : EReal) : EReal := Ideal.div 1 (1 + Ideal.exp (u - v))

/-- The weight of the other: `exp (u − v) / (1 + exp (u − v))`. -/
def weight₁ (v u : EReal) : EReal := Ideal.div (Ideal.exp (u - v)) (1 + Ideal.exp (u - v))

/-- The softmax of a pair of logits, the greater first, is the pair of those weights. -/
theorem pair_softmax {v u : EReal} (hv : Finite v) (h : u ≤ v) (f : Fin 2 → EReal) (h0 : f 0 = v) (h1 : f 1 = u) :
    Finset.univ.fold max ⊥ f = v
      ∧ Ideal.div (Ideal.exp (f 0 - v)) (∑ k, Ideal.exp (f k - v)) = weight₀ v u
      ∧ Ideal.div (Ideal.exp (f 1 - v)) (∑ k, Ideal.exp (f k - v)) = weight₁ v u := by
  have e : Ideal.exp (v - v) = 1 := by
    rw [hv.sub_self, ← EReal.coe_zero, Ideal.exp_coe, Real.exp_zero, EReal.coe_one]
  refine ⟨le_antisymm ((Finset.fold_max_le _).2 ⟨bot_le, fun j _ => ?_⟩)
    ((Finset.le_fold_max _).2 (Or.inr ⟨0, Finset.mem_univ _, h0.ge⟩)), ?_, ?_⟩
  · match j with
    | 0 => exact h0.le
    | 1 => exact h1.le.trans h
  · rw [Fin.sum_univ_two, h0, h1, e]
    rfl
  · rw [Fin.sum_univ_two, h0, h1, e]
    rfl

/-- Two experts' outputs by the weights of their logits. -/
def mix (l f : Fin 6 → EReal) (a b : Fin 6) : EReal :=
  weight₀ (l a) (l b) * f a + weight₁ (l a) (l b) * f b

/-- Summed over all six experts, weights that vanish off the two chosen leave the mixture of the two: nothing is
    asked of the other experts' outputs, zero times an infinity being zero. -/
theorem sum_chosen {a b : Fin 6} (hne : b ≠ a) (p q : EReal) (f : Fin 6 → EReal) :
    (∑ e, ((if e = a then p else 0) + (if e = b then q else 0)) * f e) = p * f a + q * f b := by
  have : ∀ e, ((if e = a then p else 0) + (if e = b then q else 0)) * f e
      = (if e = a then p * f a else 0) + (if e = b then q * f b else 0) := fun e => by
    by_cases ha : e = a
    · have hb : e ≠ b := fun h => hne (h.symm.trans ha)
      subst ha
      simp [hb]
    · by_cases hb : e = b
      · subst hb
        simp [ha]
      · simp [ha, hb]
  rw [Finset.sum_congr rfl fun e _ => this e, Finset.sum_add_distrib]
  simp

end Cert.Moe

end
-- ==== Proof.Rows.lean ====
/- One token's row of each result, from the arrays the programs are given: the token's features, its six logits, the
   two experts' networks, and the mixtures. -/
module

public import proofs.«01_k».proof.Proof.Spec
public import Idealize.ShloMosaic.Lib.Pointwise

@[expose] public section

noncomputable section

namespace Cert.Moe

open Idealize.ShloMosaic

/-- Arrays of one, two and three axes, of extended reals. -/
abbrev Arr1 (a : ℕ) : Type := Shape.Idx ⟨1, ![a]⟩ → EReal

abbrev Arr2 (a b : ℕ) : Type := Shape.Idx ⟨2, ![a, b]⟩ → EReal

abbrev Arr3 (a b c : ℕ) : Type := Shape.Idx ⟨3, ![a, b, c]⟩ → EReal

/-- The features of token `r`: of mode `r % 6` of scene `r / 6`. -/
def token (x : Arr3 4096 6 128) (r : Fin 24576) (k : Fin 128) : EReal :=
  x (ix3 ⟨r.val / 6, by omega⟩ ⟨r.val % 6, by omega⟩ k)

/-- The router's six logits of a token. -/
def router (w₁ : Arr2 128 256) (b₁ : Arr1 256) (w₂ : Arr2 256 128) (b₂ : Arr1 128) (w₃ : Arr2 128 6) (b₃ : Arr1 6)
    (x : Fin 128 → EReal) : Fin 6 → EReal :=
  mlp x (fun k n => w₁ (ix2 k n)) (fun n => b₁ (ix1 n)) (fun k n => w₂ (ix2 k n)) (fun n => b₂ (ix1 n))
    (fun k n => w₃ (ix2 k n)) (fun n => b₃ (ix1 n))

/-- Expert `e` of six three-layer networks at a token. -/
def expert {B C D : ℕ} (w₁ : Arr3 6 128 B) (b₁ : Arr2 6 B) (w₂ : Arr3 6 B C) (b₂ : Arr2 6 C) (w₃ : Arr3 6 C D)
    (b₃ : Arr2 6 D) (x : Fin 128 → EReal) (e : Fin 6) : Fin D → EReal :=
  mlp x (fun k n => w₁ (ix3 e k n)) (fun n => b₁ (ix2 e n)) (fun k n => w₂ (ix3 e k n)) (fun n => b₂ (ix2 e n))
    (fun k n => w₃ (ix3 e k n)) (fun n => b₃ (ix2 e n))

end Cert.Moe
-- ==== Proof.KernelRouter.lean ====
module
public import proofs.«01_k».proof.Proof.Rows
public import proofs.«01_k».proof.Proof.Gen.KernelIdeal.Skeleton

/-!
# The routing half of the kernel's tile

A grid step of the kernel holds a tile of 1024 token rows.  This file reads what the tile computes
before the experts, one entry at a time: the logits, the probabilities and their column sums, the two
chosen experts, and the two mixing weights.
-/

@[expose] public section
set_option maxRecDepth 16384
noncomputable section
namespace Cert.KernelIdeal.Gen
open Idealize.ShloMosaic Cert.Moe

/-- The word the row maximum starts from is the bottom of the extended reals. -/
theorem low : Ideal.ofBits .f32 0xFF800000#32 = ⊥ := by simp [Ideal.ofBits, Ideal.ieee]

/-- The tile's logits are the router applied to the tile's row. -/
theorem pay3_at (x : FVec Ideal S1024x128 .f32) (w₁ b₁ w₂ b₂ w₃ b₃) (r : Fin 1024) (n : Fin 6) :
    k0_pay3 (F := Ideal) x w₁ b₁ w₂ b₂ w₃ b₃ (ix2 r n)
      = mlp (fun k => x (ix2 r k)) (fun k n => w₁ (ix2 k n)) (fun n => b₁ (ix2 0 n))
          (fun k n => w₂ (ix2 k n)) (fun n => b₂ (ix2 0 n))
          (fun k n => w₃ (ix2 k n)) (fun n => b₃ (ix2 0 n)) n := by
  pointwise [k0_pay3, k0_pay2]
  rfl

/-- The tile's probabilities are the softmax of its row of logits. -/
theorem pay4_at (l : FVec Ideal S1024x6 .f32) (r : Fin 1024) (n : Fin 6) :
    k0_pay4 l (ix2 r n) = softmax (fun j => l (ix2 r j)) n := by
  pointwise [k0_pay4]
  simp only [low]
  rfl

/-- The tile's column sums add the probabilities over its rows. -/
theorem pay5_at (l : FVec Ideal S1024x6 .f32) (n : Fin 6) :
    k0_pay5 l (ix3 0 0 n) = ∑ r : Fin 1024, softmax (fun j => l (ix2 r j)) n := by
  pointwise [k0_pay5]
  simp only [pay4_at]

/-- The row maximum. -/
theorem pay6_at (l : FVec Ideal S1024x6 .f32) (r : Fin 1024) :
    k0_pay6 l (ix1 r) = peak (fun j => l (ix2 r j)) := by
  pointwise [k0_pay6]
  simp only [low]
  rfl

/-- The first chosen expert. -/
theorem pay7_at (l : FVec Ideal S1024x6 .f32) (r : Fin 1024) {a b : Fin 6}
    (h : Top2 (fun j => l (ix2 r j)) a b) :
    k0_pay7 l (ix1 r) = BitVec.ofNat 32 a.val := by
  pointwise [k0_pay7]
  simp only [pay6_at, h.peak_eq]
  exact h.first

/-- Two small numbers have the same word just when they are the same. -/
theorem word_eq (i j : Fin 6) : BitVec.ofNat 32 i.val = BitVec.ofNat 32 j.val ↔ i = j := by
  revert i j; decide

/-- Selecting on the equality of two words. -/
theorem select_eq {α : Type} (u v : BitVec 32) (p q : α) :
    Scalar.select (IntOp.cmpi .eq u v) p q = if u = v then p else q := by
  by_cases h : u = v
  · simp [Scalar.select, IntOp.cmpi, h]
  · have hb : (u == v) = false := by simpa using h
    simp [Scalar.select, IntOp.cmpi, h, hb]

/-- The logits with the first choice struck out. -/
theorem pay8_at (l : FVec Ideal S1024x6 .f32) (r : Fin 1024) (j : Fin 6) {a b : Fin 6}
    (h : Top2 (fun j => l (ix2 r j)) a b) :
    k0_pay8 l (ix2 r j) = struck (fun j => l (ix2 r j)) a j := by
  pointwise [k0_pay8]
  rw [pay7_at l r h, select_eq, low]
  simp only [word_eq]
  rfl

/-- The maximum of what is left. -/
theorem pay9_at (l : FVec Ideal S1024x6 .f32) (r : Fin 1024) {a b : Fin 6}
    (h : Top2 (fun j => l (ix2 r j)) a b) :
    k0_pay9 l (ix1 r) = l (ix2 r b) := by
  pointwise [k0_pay9]
  simp only [low, pay8_at l r _ h]
  exact h.peak_struck

/-- The second chosen expert. -/
theorem pay10_at (l : FVec Ideal S1024x6 .f32) (r : Fin 1024) {a b : Fin 6}
    (h : Top2 (fun j => l (ix2 r j)) a b) (hl : ∀ j, Finite (l (ix2 r j))) :
    k0_pay10 l (ix1 r) = BitVec.ofNat 32 b.val := by
  pointwise [k0_pay10]
  simp only [pay9_at l r h, pay8_at l r _ h]
  exact h.second hl

/-- The exponential the two weights share. -/
theorem pay11_at (l : FVec Ideal S1024x6 .f32) (r : Fin 1024) {a b : Fin 6}
    (h : Top2 (fun j => l (ix2 r j)) a b) :
    k0_pay11 l (ix1 r) = Ideal.exp (l (ix2 r b) - l (ix2 r a)) := by
  pointwise [k0_pay11]
  rw [pay9_at l r h, pay6_at, h.peak_eq]

/-- The weight of the first choice. -/
theorem pay12_at (l : FVec Ideal S1024x6 .f32) (r : Fin 1024) {a b : Fin 6}
    (h : Top2 (fun j => l (ix2 r j)) a b) :
    k0_pay12 l (ix1 r) = weight₀ (l (ix2 r a)) (l (ix2 r b)) := by
  pointwise [k0_pay12]
  rw [pay11_at l r h]
  rfl

/-- The weight of the second choice. -/
theorem pay14_at (l : FVec Ideal S1024x6 .f32) (r : Fin 1024) {a b : Fin 6}
    (h : Top2 (fun j => l (ix2 r j)) a b) :
    k0_pay14 (k0_pay11 l) (k0_pay13 (F := Ideal)) (ix1 r) = weight₁ (l (ix2 r a)) (l (ix2 r b)) := by
  pointwise [k0_pay14, k0_pay13]
  rw [pay11_at l r h]
  rfl

end Cert.KernelIdeal.Gen
-- ==== Proof.KernelExperts.lean ====
module
public import proofs.«01_k».proof.Proof.KernelRouter

/-!
# The experts of the kernel's tile

Every expert is a three layer perceptron applied to the whole tile.  The kernel runs all six of them and
adds each one multiplied by the weight the row gives it.  A row gives a weight to its two chosen experts
and zero to the others, so the sum is the mixture of the two.
-/

@[expose] public section
set_option maxRecDepth 16384
noncomputable section
namespace Cert.KernelIdeal.Gen
open Idealize.ShloMosaic Cert.Moe

/-- One expert applied to row `r` of a tile.  Its weights are slabs with a leading axis of length one. -/
def slab {h₁ h₂ d : ℕ} (x : Arr2 1024 128) (w₁ : Arr3 1 128 h₁) (b₁ : Arr2 1 h₁) (w₂ : Arr3 1 h₁ h₂)
    (b₂ : Arr2 1 h₂) (w₃ : Arr3 1 h₂ d) (b₃ : Arr2 1 d) (r : Fin 1024) (n : Fin d) : EReal :=
  mlp (fun k => x (ix2 r k)) (fun k n => w₁ (ix3 0 k n)) (fun n => b₁ (ix2 0 n))
    (fun k n => w₂ (ix3 0 k n)) (fun n => b₂ (ix2 0 n)) (fun k n => w₃ (ix3 0 k n)) (fun n => b₃ (ix2 0 n)) n

/-- The zeroth expert's trajectory. -/
theorem path0 (x w₁ b₁ w₂ b₂ w₃ b₃) (r : Fin 1024) (n : Fin 120) :
    k0_pay18 (F := Ideal) (k0_pay17 x w₁ b₁ w₂ b₂) w₃ b₃ (ix2 r n) = slab x w₁ b₁ w₂ b₂ w₃ b₃ r n := by
  pointwise [k0_pay17, k0_pay18]
  rfl

/-- The first expert's trajectory. -/
theorem path1 (x w₁ b₁ w₂ b₂ w₃ b₃) (r : Fin 1024) (n : Fin 120) :
    k0_pay24 (F := Ideal) (k0_pay23 x w₁ b₁) w₂ b₂ w₃ b₃ (ix2 r n) = slab x w₁ b₁ w₂ b₂ w₃ b₃ r n := by
  pointwise [k0_pay23, k0_pay24]
  rfl

/-- The second expert's trajectory. -/
theorem path2 (x w₁ b₁ w₂ b₂ w₃ b₃) (r : Fin 1024) (n : Fin 120) :
    k0_pay35 (F := Ideal) (k0_pay33 x w₁ b₁ w₂ b₂) (k0_pay34 w₃) (constant S1024x120 .f32 0x00000000#32) b₃ (ix2 r n) = slab x w₁ b₁ w₂ b₂ w₃ b₃ r n := by
  pointwise [k0_pay33, k0_pay34, k0_pay35]
  rfl

/-- The third expert's trajectory. -/
theorem path3 (x w₁ b₁ w₂ b₂ w₃ b₃) (r : Fin 1024) (n : Fin 120) :
    k0_pay41 (F := Ideal) (k0_pay40 x w₁ b₁) w₂ b₂ w₃ b₃ (ix2 r n) = slab x w₁ b₁ w₂ b₂ w₃ b₃ r n := by
  pointwise [k0_pay40, k0_pay41]
  rfl

/-- The fourth expert's trajectory. -/
theorem path4 (x w₁ b₁ w₂ b₂ w₃ b₃) (r : Fin 1024) (n : Fin 120) :
    k0_pay51 (F := Ideal) (k0_pay50 x w₁ b₁ w₂ b₂ w₃) b₃ (ix2 r n) = slab x w₁ b₁ w₂ b₂ w₃ b₃ r n := by
  pointwise [k0_pay50, k0_pay51]
  rfl

/-- The fifth expert's trajectory. -/
theorem path5 (x w₁ b₁ w₂ b₂ w₃ b₃) (r : Fin 1024) (n : Fin 120) :
    k0_pay57 (F := Ideal) (k0_pay56 x w₁ b₁) w₂ b₂ w₃ b₃ (ix2 r n) = slab x w₁ b₁ w₂ b₂ w₃ b₃ r n := by
  pointwise [k0_pay56, k0_pay57]
  rfl

/-- The weight a row gives to expert `e`, from its two choices and their weights. -/
def share (a b : Fin 6) (p q : EReal) (e : Fin 6) : EReal := (if e = a then p else 0) + (if e = b then q else 0)

/-- The kernel compares the words of the two choices with the number of the expert. -/
theorem share_word (a b e : Fin 6) (p q : EReal) :
    Scalar.select (IntOp.cmpi .eq (BitVec.ofNat 32 a.val) (BitVec.ofNat 32 e.val)) p 0
      + Scalar.select (IntOp.cmpi .eq (BitVec.ofNat 32 b.val) (BitVec.ofNat 32 e.val)) q 0
      = share a b p q e := by
  simp only [select_eq, word_eq, eq_comm (b := e)]
  rfl

section steps
variable (i₀ i₁ : IVec S1024 32) (p₀ p₁ : FVec Ideal S1024 .f32) (r : Fin 1024) (a b : Fin 6)
  (h₀ : i₀ (ix1 r) = BitVec.ofNat 32 a.val) (h₁ : i₁ (ix1 r) = BitVec.ofNat 32 b.val)
include h₀ h₁

/-- Adding the zeroth expert's trajectory. -/
theorem add0 (v y : FVec Ideal S1024x120 .f32) (n : Fin 120) :
    k0_pay21 i₀ i₁ p₀ p₁ v y (ix2 r n)
      = v (ix2 r n) + share a b (p₀ (ix1 r)) (p₁ (ix1 r)) 0 * y (ix2 r n) := by
  pointwise [k0_pay21, k0_pay20]
  rw [h₀, h₁]
  exact congrArg (v (ix2 r n) + · * y (ix2 r n)) (share_word a b 0 _ _)

/-- Adding the first expert's trajectory. -/
theorem add1 (v y : FVec Ideal S1024x120 .f32) (n : Fin 120) :
    k0_pay31 v y (k0_pay30 i₀ i₁ p₀ p₁) (ix2 r n)
      = v (ix2 r n) + share a b (p₀ (ix1 r)) (p₁ (ix1 r)) 1 * y (ix2 r n) := by
  pointwise [k0_pay31, k0_pay30, k0_pay29]
  rw [h₀, h₁]
  exact congrArg (v (ix2 r n) + · * y (ix2 r n)) (share_word a b 1 _ _)

/-- Adding the second expert's trajectory. -/
theorem add2 (v y : FVec Ideal S1024x120 .f32) (n : Fin 120) :
    k0_pay38 i₀ i₁ p₀ p₁ v y (ix2 r n)
      = v (ix2 r n) + share a b (p₀ (ix1 r)) (p₁ (ix1 r)) 2 * y (ix2 r n) := by
  pointwise [k0_pay38, k0_pay37]
  rw [h₀, h₁]
  exact congrArg (v (ix2 r n) + · * y (ix2 r n)) (share_word a b 2 _ _)

/-- Adding the third expert's trajectory. -/
theorem add3 (v y : FVec Ideal S1024x120 .f32) (n : Fin 120) :
    k0_pay48 i₀ i₁ p₀ p₁ v y (ix2 r n)
      = v (ix2 r n) + share a b (p₀ (ix1 r)) (p₁ (ix1 r)) 3 * y (ix2 r n) := by
  pointwise [k0_pay48, k0_pay47]
  rw [h₀, h₁]
  exact congrArg (v (ix2 r n) + · * y (ix2 r n)) (share_word a b 3 _ _)

/-- Adding the fourth expert's trajectory. -/
theorem add4 (v y : FVec Ideal S1024x120 .f32) (n : Fin 120) :
    k0_pay54 i₀ i₁ p₀ p₁ v y (ix2 r n)
      = v (ix2 r n) + share a b (p₀ (ix1 r)) (p₁ (ix1 r)) 4 * y (ix2 r n) := by
  pointwise [k0_pay54, k0_pay53]
  rw [h₀, h₁]
  exact congrArg (v (ix2 r n) + · * y (ix2 r n)) (share_word a b 4 _ _)

/-- Adding the fifth expert's trajectory. -/
theorem add5 (v y : FVec Ideal S1024x120 .f32) (n : Fin 120) :
    k0_pay60 i₀ i₁ p₀ p₁ v y (ix2 r n)
      = v (ix2 r n) + share a b (p₀ (ix1 r)) (p₁ (ix1 r)) 5 * y (ix2 r n) := by
  pointwise [k0_pay60, k0_pay59]
  rw [h₀, h₁]
  exact congrArg (v (ix2 r n) + · * y (ix2 r n)) (share_word a b 5 _ _)

/-- Adding the zeroth expert's score. -/
theorem score0 (v : FVec Ideal S1024 .f32) (x w₁ b₁ w₂ b₂ w₃ b₃) :
    k0_pay22 i₀ i₁ p₀ p₁ v (k0_pay19 x w₁ b₁ w₂ b₂) w₃ b₃ (ix1 r)
      = v (ix1 r) + share a b (p₀ (ix1 r)) (p₁ (ix1 r)) 0 * slab x w₁ b₁ w₂ b₂ w₃ b₃ r 0 := by
  pointwise [k0_pay22, k0_pay20, k0_pay19]
  rw [h₀, h₁]
  exact congrArg (v (ix1 r) + · * slab x w₁ b₁ w₂ b₂ w₃ b₃ r 0) (share_word a b 0 _ _)

/-- Adding the first expert's score. -/
theorem score1 (v : FVec Ideal S1024 .f32) (x w₁ b₁ w₂ b₂ w₃ b₃) :
    k0_pay32 v (k0_pay28 (k0_pay26 x w₁ b₁) (k0_pay27 x w₁ b₁) w₂ b₂ w₃ b₃) (k0_pay29 i₀ i₁ p₀ p₁) (ix1 r)
      = v (ix1 r) + share a b (p₀ (ix1 r)) (p₁ (ix1 r)) 1 * slab x w₁ b₁ w₂ b₂ w₃ b₃ r 0 := by
  pointwise [k0_pay32, k0_pay29, k0_pay28, k0_pay27, k0_pay26, k0_pay25]
  rw [h₀, h₁]
  exact congrArg (v (ix1 r) + · * slab x w₁ b₁ w₂ b₂ w₃ b₃ r 0) (share_word a b 1 _ _)

/-- Adding the second expert's score. -/
theorem score2 (v : FVec Ideal S1024 .f32) (x w₁ b₁ w₂ b₂ w₃ b₃) :
    k0_pay39 i₀ i₁ p₀ p₁ v (k0_pay36 x w₁ b₁ w₂ b₂) w₃ b₃ (ix1 r)
      = v (ix1 r) + share a b (p₀ (ix1 r)) (p₁ (ix1 r)) 2 * slab x w₁ b₁ w₂ b₂ w₃ b₃ r 0 := by
  pointwise [k0_pay39, k0_pay37, k0_pay36]
  rw [h₀, h₁]
  exact congrArg (v (ix1 r) + · * slab x w₁ b₁ w₂ b₂ w₃ b₃ r 0) (share_word a b 2 _ _)

/-- Adding the third expert's score. -/
theorem score3 (v : FVec Ideal S1024 .f32) (x w₁ b₁ w₂ b₂ w₃ b₃) :
    k0_pay49 v (k0_pay46 (k0_pay43 x w₁ b₁) (k0_pay44 x w₁ b₁) k0_pay45 w₂ b₂ w₃ b₃) (k0_pay47 i₀ i₁ p₀ p₁) (ix1 r)
      = v (ix1 r) + share a b (p₀ (ix1 r)) (p₁ (ix1 r)) 3 * slab x w₁ b₁ w₂ b₂ w₃ b₃ r 0 := by
  pointwise [k0_pay49, k0_pay47, k0_pay46, k0_pay45, k0_pay44, k0_pay43, k0_pay42]
  rw [h₀, h₁]
  exact congrArg (v (ix1 r) + · * slab x w₁ b₁ w₂ b₂ w₃ b₃ r 0) (share_word a b 3 _ _)

/-- Adding the fourth expert's score. -/
theorem score4 (v : FVec Ideal S1024 .f32) (x w₁ b₁ w₂ b₂ w₃ b₃) :
    k0_pay55 i₀ i₁ p₀ p₁ v (k0_pay52 x w₁ b₁ w₂ b₂) w₃ b₃ (ix1 r)
      = v (ix1 r) + share a b (p₀ (ix1 r)) (p₁ (ix1 r)) 4 * slab x w₁ b₁ w₂ b₂ w₃ b₃ r 0 := by
  pointwise [k0_pay55, k0_pay53, k0_pay52]
  rw [h₀, h₁]
  exact congrArg (v (ix1 r) + · * slab x w₁ b₁ w₂ b₂ w₃ b₃ r 0) (share_word a b 4 _ _)

/-- Adding the fifth expert's score. -/
theorem score5 (v : FVec Ideal S1024 .f32) (x w₁ b₁ w₂ b₂ w₃ b₃) :
    k0_pay61 i₀ i₁ p₀ p₁ v (k0_pay58 x w₁ b₁) w₂ b₂ w₃ b₃ (ix1 r)
      = v (ix1 r) + share a b (p₀ (ix1 r)) (p₁ (ix1 r)) 5 * slab x w₁ b₁ w₂ b₂ w₃ b₃ r 0 := by
  pointwise [k0_pay61, k0_pay59, k0_pay58]
  rw [h₀, h₁]
  exact congrArg (v (ix1 r) + · * slab x w₁ b₁ w₂ b₂ w₃ b₃ r 0) (share_word a b 5 _ _)

end steps

/-- Six steps from zero, each adding a share of one expert, give the mixture of the two chosen experts. -/
theorem six_steps {a b : Fin 6} (hne : b ≠ a) (p q : EReal) (f : Fin 6 → EReal) :
    0 + share a b p q 0 * f 0 + share a b p q 1 * f 1 + share a b p q 2 * f 2 + share a b p q 3 * f 3
      + share a b p q 4 * f 4 + share a b p q 5 * f 5 = p * f a + q * f b := by
  rw [← sum_chosen hne p q f, Fin.sum_univ_six, zero_add]
  rfl

end Cert.KernelIdeal.Gen
-- ==== Proof.KernelTile.lean ====
module
public import proofs.«01_k».proof.Proof.KernelExperts
public import proofs.«01_k».proof.Proof.Gen.KernelIdeal.Frame
public import Idealize.ShloMosaic.Lib.Pipeline.ValueKit

/-!
# What a grid step leaves in its four output blocks

The blocks hold, for every row of the tile: the mixed trajectory, the mixed score, the probabilities, and
the column sums of the probabilities.
-/

@[expose] public section
set_option maxRecDepth 16384
noncomputable section
namespace Cert.KernelIdeal.Gen
open Idealize.ShloMosaic Cert.Moe

/-- A slab cut out of six experts' weights is that expert. -/
theorem slab_expert {h₁ h₂ d : ℕ} (w₁ : Arr3 6 128 h₁) (b₁ : Arr2 6 h₁) (w₂ : Arr3 6 h₁ h₂) (b₂ : Arr2 6 h₂)
    (w₃ : Arr3 6 h₂ d) (b₃ : Arr2 6 d) (x : Arr2 1024 128) (e : Fin 6) (r : Fin 1024) (n : Fin d)
    (y : Arr2 1024 128) (v₁ : Arr3 1 128 h₁) (c₁ : Arr2 1 h₁) (v₂ : Arr3 1 h₁ h₂) (c₂ : Arr2 1 h₂)
    (v₃ : Arr3 1 h₂ d) (c₃ : Arr2 1 d)
    (hy : ∀ k, y (ix2 r k) = x (ix2 r k))
    (hv₁ : ∀ k n, v₁ (ix3 0 k n) = w₁ (ix3 e k n)) (hc₁ : ∀ n, c₁ (ix2 0 n) = b₁ (ix2 e n))
    (hv₂ : ∀ k n, v₂ (ix3 0 k n) = w₂ (ix3 e k n)) (hc₂ : ∀ n, c₂ (ix2 0 n) = b₂ (ix2 e n))
    (hv₃ : ∀ k n, v₃ (ix3 0 k n) = w₃ (ix3 e k n)) (hc₃ : ∀ n, c₃ (ix2 0 n) = b₃ (ix2 e n)) :
    slab y v₁ c₁ v₂ c₂ v₃ c₃ r n = expert w₁ b₁ w₂ b₂ w₃ b₃ (fun k => x (ix2 r k)) e n := by
  simp only [slab, expert, hy, hv₁, hc₁, hv₂, hc₂, hv₃, hc₃]

/-- The router applied to row `r` of a tile.  Its bias rows have a leading axis of length one. -/
def tileRouter (x : Arr2 1024 128) (w₁ : Arr2 128 256) (b₁ : Arr2 1 256) (w₂ : Arr2 256 128) (b₂ : Arr2 1 128)
    (w₃ : Arr2 128 6) (b₃ : Arr2 1 6) (r : Fin 1024) : Fin 6 → EReal :=
  mlp (fun k => x (ix2 r k)) (fun k n => w₁ (ix2 k n)) (fun n => b₁ (ix2 0 n)) (fun k n => w₂ (ix2 k n))
    (fun n => b₂ (ix2 0 n)) (fun k n => w₃ (ix2 k n)) (fun n => b₃ (ix2 0 n))

section
variable (x0 : FVec Ideal S1024x128 .f32) (x1 : FVec Ideal S128x256 .f32) (x2 : FVec Ideal S1x256 .f32) (x3 : FVec Ideal S256x128 .f32) (x4 : FVec Ideal S1x128 .f32)
  (x5 : FVec Ideal S128x6 .f32) (x6 : FVec Ideal S1x6 .f32)
  (x7 : FVec Ideal S6x128x256 .f32) (x8 : FVec Ideal S6x256 .f32) (x9 : FVec Ideal S6x256x256 .f32)
  (x10 : FVec Ideal S6x256 .f32) (x11 : FVec Ideal S6x256x120 .f32) (x12 : FVec Ideal S6x120 .f32)
  (x13 : FVec Ideal S6x128x128 .f32) (x14 : FVec Ideal S6x128 .f32) (x15 : FVec Ideal S6x128x64 .f32)
  (x16 : FVec Ideal S6x64 .f32) (x17 : FVec Ideal S6x64x1 .f32) (x18 : FVec Ideal S6x1 .f32)

/-- The tile the experts read is the input block. -/
theorem pay62_at (r : Fin 1024) (k : Fin 128) : k0_pay62 (F := Ideal) x0 x1 x2 x3 x4 x5 x6 x7 x8 x9 x10 x11 x12 x13 x14 x15 x16 x17 x18 (ix2 r k) = x0 (ix2 r k) := by
  unfold k0_pay62
  frame_out
  pointwise [k0_pay2]

/-- The logits kept for the tile. -/
theorem pay63_eq : k0_pay63 (F := Ideal) x0 x1 x2 x3 x4 x5 x6 x7 x8 x9 x10 x11 x12 x13 x14 x15 x16 x17 x18 = k0_pay3 (F := Ideal) x0 x1 x2 x3 x4 x5 x6 := by
  unfold k0_pay63
  frame_out

/-- Row `r` of the logits. -/
theorem logits_row (r : Fin 1024) :
    (fun j => k0_pay3 (F := Ideal) x0 x1 x2 x3 x4 x5 x6 (ix2 r j)) = tileRouter x0 x1 x2 x3 x4 x5 x6 r :=
  funext fun _ => pay3_at _ _ _ _ _ _ _ _ _

/-- The probabilities' block. -/
theorem out0_21_at (r : Fin 1024) (n : Fin 6) :
    out0_21 (F := Ideal) x0 x1 x2 x3 x4 x5 x6 x7 x8 x9 x10 x11 x12 x13 x14 x15 x16 x17 x18 (ix2 r n) = softmax (tileRouter x0 x1 x2 x3 x4 x5 x6 r) n := by
  frame_out
  rw [pay63_eq, pay4_at, logits_row]

/-- The block of column sums. -/
theorem out0_22_at (n : Fin 6) :
    out0_22 (F := Ideal) x0 x1 x2 x3 x4 x5 x6 x7 x8 x9 x10 x11 x12 x13 x14 x15 x16 x17 x18 (ix3 0 0 n) = ∑ r : Fin 1024, softmax (tileRouter x0 x1 x2 x3 x4 x5 x6 r) n := by
  frame_out
  rw [pay63_eq, pay5_at]
  simp only [logits_row]

variable (r : Fin 1024) {a b : Fin 6} (h : Top2 (tileRouter x0 x1 x2 x3 x4 x5 x6 r) a b)
include h

/-- The first choice kept for the tile. -/
theorem pay64_at : k0_pay64 (F := Ideal) x0 x1 x2 x3 x4 x5 x6 x7 x8 x9 x10 x11 x12 x13 x14 x15 x16 x17 x18 (ix1 r) = BitVec.ofNat 32 a.val := by
  unfold k0_pay64
  rw [pay63_eq]
  exact pay7_at _ r (by rw [logits_row]; exact h)

/-- The second choice kept for the tile. -/
theorem pay65_at (hl : ∀ j, Finite (tileRouter x0 x1 x2 x3 x4 x5 x6 r j)) :
    k0_pay65 (F := Ideal) x0 x1 x2 x3 x4 x5 x6 x7 x8 x9 x10 x11 x12 x13 x14 x15 x16 x17 x18 (ix1 r) = BitVec.ofNat 32 b.val := by
  unfold k0_pay65
  rw [pay63_eq]
  exact pay10_at _ r (by rw [logits_row]; exact h) fun j => by rw [pay3_at]; exact hl j

/-- The weight of the first choice kept for the tile. -/
theorem pay66_at : k0_pay66 (F := Ideal) x0 x1 x2 x3 x4 x5 x6 x7 x8 x9 x10 x11 x12 x13 x14 x15 x16 x17 x18 (ix1 r)
    = weight₀ (tileRouter x0 x1 x2 x3 x4 x5 x6 r a) (tileRouter x0 x1 x2 x3 x4 x5 x6 r b) := by
  unfold k0_pay66
  rw [pay63_eq, pay12_at _ r (by rw [logits_row]; exact h), pay3_at, pay3_at]
  rfl

/-- The weight of the second choice kept for the tile. -/
theorem pay67_at : k0_pay67 (F := Ideal) x0 x1 x2 x3 x4 x5 x6 x7 x8 x9 x10 x11 x12 x13 x14 x15 x16 x17 x18 (ix1 r)
    = weight₁ (tileRouter x0 x1 x2 x3 x4 x5 x6 r a) (tileRouter x0 x1 x2 x3 x4 x5 x6 r b) := by
  unfold k0_pay67
  rw [pay63_eq, pay14_at _ r (by rw [logits_row]; exact h), pay3_at, pay3_at]
  rfl

/-- The trajectories' block. -/
theorem out0_19_at (hl : ∀ j, Finite (tileRouter x0 x1 x2 x3 x4 x5 x6 r j)) (n : Fin 120) :
    out0_19 (F := Ideal) x0 x1 x2 x3 x4 x5 x6 x7 x8 x9 x10 x11 x12 x13 x14 x15 x16 x17 x18 (ix2 r n)
      = mix (tileRouter x0 x1 x2 x3 x4 x5 x6 r)
          (fun e => expert x7 x8 x9 x10 x11 x12 (fun k => x0 (ix2 r k)) e n) a b := by
  have h₀ := pay64_at x0 x1 x2 x3 x4 x5 x6 x7 x8 x9 x10 x11 x12 x13 x14 x15 x16 x17 x18 r h
  have h₁ := pay65_at x0 x1 x2 x3 x4 x5 x6 x7 x8 x9 x10 x11 x12 x13 x14 x15 x16 x17 x18 r h hl
  have hx := pay62_at x0 x1 x2 x3 x4 x5 x6 x7 x8 x9 x10 x11 x12 x13 x14 x15 x16 x17 x18 r
  have hz : k0_pay15 (F := Ideal) (ix2 r n) = 0 := by pointwise [k0_pay15]
  frame_out
  rw [add5 _ _ _ _ r a b h₀ h₁, add4 _ _ _ _ r a b h₀ h₁, add3 _ _ _ _ r a b h₀ h₁, add2 _ _ _ _ r a b h₀ h₁,
    add1 _ _ _ _ r a b h₀ h₁, add0 _ _ _ _ r a b h₀ h₁, hz, pay66_at x0 x1 x2 x3 x4 x5 x6 x7 x8 x9 x10 x11 x12 x13 x14 x15 x16 x17 x18 r h, pay67_at x0 x1 x2 x3 x4 x5 x6 x7 x8 x9 x10 x11 x12 x13 x14 x15 x16 x17 x18 r h]
  rw [path0, slab_expert x7 x8 x9 x10 x11 x12 x0 0 r n _ _ _ _ _ _ _ hx (by intro k j; pointwise) (by intro j; pointwise)
    (by intro k j; pointwise) (by intro j; pointwise) (by intro k j; pointwise) (by intro j; pointwise)]
  rw [path1, slab_expert x7 x8 x9 x10 x11 x12 x0 1 r n _ _ _ _ _ _ _ hx (by intro k j; pointwise) (by intro j; pointwise)
    (by intro k j; pointwise) (by intro j; pointwise) (by intro k j; pointwise) (by intro j; pointwise)]
  rw [path2, slab_expert x7 x8 x9 x10 x11 x12 x0 2 r n _ _ _ _ _ _ _ hx (by intro k j; pointwise) (by intro j; pointwise)
    (by intro k j; pointwise) (by intro j; pointwise) (by intro k j; pointwise) (by intro j; pointwise)]
  rw [path3, slab_expert x7 x8 x9 x10 x11 x12 x0 3 r n _ _ _ _ _ _ _ hx (by intro k j; pointwise) (by intro j; pointwise)
    (by intro k j; pointwise) (by intro j; pointwise) (by intro k j; pointwise) (by intro j; pointwise)]
  rw [path4, slab_expert x7 x8 x9 x10 x11 x12 x0 4 r n _ _ _ _ _ _ _ hx (by intro k j; pointwise) (by intro j; pointwise)
    (by intro k j; pointwise) (by intro j; pointwise) (by intro k j; pointwise) (by intro j; pointwise)]
  rw [path5, slab_expert x7 x8 x9 x10 x11 x12 x0 5 r n _ _ _ _ _ _ _ hx (by intro k j; pointwise) (by intro j; pointwise)
    (by intro k j; pointwise) (by intro j; pointwise) (by intro k j; pointwise) (by intro j; pointwise)]
  exact six_steps h.ne _ _ fun e => expert x7 x8 x9 x10 x11 x12 (fun k => x0 (ix2 r k)) e n

/-- The scores' block. -/
theorem out0_20_at (hl : ∀ j, Finite (tileRouter x0 x1 x2 x3 x4 x5 x6 r j)) :
    out0_20 (F := Ideal) x0 x1 x2 x3 x4 x5 x6 x7 x8 x9 x10 x11 x12 x13 x14 x15 x16 x17 x18 (ix2 r 0)
      = mix (tileRouter x0 x1 x2 x3 x4 x5 x6 r)
          (fun e => expert x13 x14 x15 x16 x17 x18 (fun k => x0 (ix2 r k)) e 0) a b := by
  have h₀ := pay64_at x0 x1 x2 x3 x4 x5 x6 x7 x8 x9 x10 x11 x12 x13 x14 x15 x16 x17 x18 r h
  have h₁ := pay65_at x0 x1 x2 x3 x4 x5 x6 x7 x8 x9 x10 x11 x12 x13 x14 x15 x16 x17 x18 r h hl
  have hx := pay62_at x0 x1 x2 x3 x4 x5 x6 x7 x8 x9 x10 x11 x12 x13 x14 x15 x16 x17 x18 r
  have hz : k0_pay16 (F := Ideal) (ix1 r) = 0 := by pointwise [k0_pay16]
  frame_out
  pointwise [k0_pay1]
  rw [score5 _ _ _ _ r a b h₀ h₁,
    slab_expert x13 x14 x15 x16 x17 x18 x0 5 r 0 _ _ _ _ _ _ _ hx (by intro k j; pointwise) (by intro j; pointwise)
      (by intro k j; pointwise) (by intro j; pointwise) (by intro k j; rw [Subsingleton.elim j 0]; pointwise)
      (by intro j; rw [Subsingleton.elim j 0]; pointwise)]
  rw [score4 _ _ _ _ r a b h₀ h₁,
    slab_expert x13 x14 x15 x16 x17 x18 x0 4 r 0 _ _ _ _ _ _ _ hx (by intro k j; pointwise) (by intro j; pointwise)
      (by intro k j; pointwise) (by intro j; pointwise) (by intro k j; rw [Subsingleton.elim j 0]; pointwise)
      (by intro j; rw [Subsingleton.elim j 0]; pointwise)]
  rw [score3 _ _ _ _ r a b h₀ h₁,
    slab_expert x13 x14 x15 x16 x17 x18 x0 3 r 0 _ _ _ _ _ _ _ hx (by intro k j; pointwise) (by intro j; pointwise)
      (by intro k j; pointwise) (by intro j; pointwise) (by intro k j; rw [Subsingleton.elim j 0]; pointwise)
      (by intro j; rw [Subsingleton.elim j 0]; pointwise)]
  rw [score2 _ _ _ _ r a b h₀ h₁,
    slab_expert x13 x14 x15 x16 x17 x18 x0 2 r 0 _ _ _ _ _ _ _ hx (by intro k j; pointwise) (by intro j; pointwise)
      (by intro k j; pointwise) (by intro j; pointwise) (by intro k j; rw [Subsingleton.elim j 0]; pointwise)
      (by intro j; rw [Subsingleton.elim j 0]; pointwise)]
  rw [score1 _ _ _ _ r a b h₀ h₁,
    slab_expert x13 x14 x15 x16 x17 x18 x0 1 r 0 _ _ _ _ _ _ _ hx (by intro k j; pointwise) (by intro j; pointwise)
      (by intro k j; pointwise) (by intro j; pointwise) (by intro k j; rw [Subsingleton.elim j 0]; pointwise)
      (by intro j; rw [Subsingleton.elim j 0]; pointwise)]
  rw [score0 _ _ _ _ r a b h₀ h₁,
    slab_expert x13 x14 x15 x16 x17 x18 x0 0 r 0 _ _ _ _ _ _ _ hx (by intro k j; pointwise) (by intro j; pointwise)
      (by intro k j; pointwise) (by intro j; pointwise) (by intro k j; rw [Subsingleton.elim j 0]; pointwise)
      (by intro j; rw [Subsingleton.elim j 0]; pointwise)]
  rw [hz, pay66_at x0 x1 x2 x3 x4 x5 x6 x7 x8 x9 x10 x11 x12 x13 x14 x15 x16 x17 x18 r h,
    pay67_at x0 x1 x2 x3 x4 x5 x6 x7 x8 x9 x10 x11 x12 x13 x14 x15 x16 x17 x18 r h]
  exact six_steps h.ne _ _ fun e => expert x13 x14 x15 x16 x17 x18 (fun k => x0 (ix2 r k)) e 0

end

end Cert.KernelIdeal.Gen
-- ==== Proof.KernelHost.lean ====
module
public import proofs.«01_k».proof.Proof.Gen.KernelIdeal.Frame
public import Idealize.ShloMosaic.Lib.Claim

/-!
# The host operations around the kernel

Before the kernel four arguments are reshaped.  After it the kernel's arrays are reshaped into results, and
the column sums of the probabilities become the auxiliary loss.
-/

@[expose] public section
set_option maxRecDepth 16384
noncomputable section
namespace Cert.KernelIdeal.Value
open Idealize.ShloMosaic Idealize.ShloMosaic.TcCoe Idealize.SL.Sem Idealize.ShloMosaic.StableHlo
open Cert.KernelIdeal Cert.KernelIdeal.Gen

/-- The mean probability of every expert, from the sums of the probabilities over all tokens. -/
def usage (s : FVec Ideal S6 .f32) : FVec Ideal S6 .f32 :=
  Host.divf s (broadcastInDim S6 ![] bcast_S_S6 (constant S_ .f32 0x46C00000#32))

/-- How far the mean probabilities are from an even share. -/
def excess (s : FVec Ideal S6 .f32) : FVec Ideal S6 .f32 :=
  subf (usage s)
    (Host.divf (broadcastInDim S6 ![] bcast_S_S6 (constant S_ .f32 0x3F800000#32))
      (broadcastInDim S6 ![] bcast_S_S6 (constant S_ .f32 0x40C00000#32)))

/-- The auxiliary loss: an entropy term and a balance term. -/
def loss (s : FVec Ideal S6 .f32) : FVec Ideal S_ .f32 :=
  addf
    (mulf
      (Host.negf (Host.negf (Host.reduceAdd
        (mulf (usage s)
          (Host.log (addf (usage s) (broadcastInDim S6 ![] bcast_S_S6 (constant S_ .f32 0x322BCC77#32)))))
        (constant S_ .f32 0x00000000#32) reducesTo_S6_S_d0 h_S_)))
      (constant S_ .f32 0x3C23D70A#32))
    (mulf (constant S_ .f32 0x3C23D70A#32)
      (Host.divf
        (Host.reduceAdd (mulf (excess s) (excess s)) (constant S_ .f32 0x00000000#32) reducesTo_S6_S_d0 h_S_)
        (constant S_ .f32 0x40C00000#32)))

/-- The sums over all tokens, from the sums over each tile. -/
def total (p : FVec Ideal S24x1x6 .f32) : FVec Ideal S6 .f32 :=
  Host.reduceAdd (shapeCast S24x6 p shapeCasts_S24x1x6_S24x6) (constant S_ .f32 0x00000000#32)
    reducesTo_S24x6_S6_d0 h_S_

section lines
variable (W : Valuation τ sig (Elt Ideal))

/-- The first reshape before the kernel. -/
theorem before_v0 : after (hostOps0 (F := Ideal)) W (Proc.devRef .tc main_v0)
    = shapeCast S24576x128 (W (Proc.devRef .tc main_arg0)) shapeCasts_S4096x6x128_S24576x128 := by
  unfold hostOps0
  after_results_simp
  rfl

/-- The second reshape before the kernel. -/
theorem before_v1 : after (hostOps0 (F := Ideal)) W (Proc.devRef .tc main_v1)
    = shapeCast S1x256 (W (Proc.devRef .tc main_arg2)) shapeCasts_S256_S1x256 := by
  unfold hostOps0
  after_results_simp
  rfl

/-- The third reshape before the kernel. -/
theorem before_v2 : after (hostOps0 (F := Ideal)) W (Proc.devRef .tc main_v2)
    = shapeCast S1x128 (W (Proc.devRef .tc main_arg4)) shapeCasts_S128_S1x128 := by
  unfold hostOps0
  after_results_simp
  rfl

/-- The fourth reshape before the kernel. -/
theorem before_v3 : after (hostOps0 (F := Ideal)) W (Proc.devRef .tc main_v3)
    = shapeCast S1x6 (W (Proc.devRef .tc main_arg6)) shapeCasts_S6_S1x6 := by
  unfold hostOps0
  after_results_simp
  rfl

set_option maxHeartbeats 1600000 in
/-- The trajectories' reshape. -/
theorem after_v5 : after (hostOps1 (F := Ideal)) W (Proc.devRef .tc main_v5)
    = shapeCast S4096x6x60x2 (W (Proc.devRef .tc main_v4_0)) shapeCasts_S24576x120_S4096x6x60x2 := by
  unfold hostOps1
  after_results_simp
  rfl

set_option maxHeartbeats 1600000 in
/-- The scores' reshape. -/
theorem after_v6 : after (hostOps1 (F := Ideal)) W (Proc.devRef .tc main_v6)
    = shapeCast S4096x6 (W (Proc.devRef .tc main_v4_1)) shapeCasts_S24576x1_S4096x6 := by
  unfold hostOps1
  after_results_simp
  rfl

set_option maxHeartbeats 1600000 in
/-- The probabilities' reshape. -/
theorem after_v7 : after (hostOps1 (F := Ideal)) W (Proc.devRef .tc main_v7)
    = shapeCast S4096x6x6 (W (Proc.devRef .tc main_v4_2)) shapeCasts_S24576x6_S4096x6x6 := by
  unfold hostOps1
  after_results_simp
  rfl

set_option maxHeartbeats 1600000 in
/-- The auxiliary loss. -/
theorem after_v28 : after (hostOps1 (F := Ideal)) W (Proc.devRef .tc main_v28)
    = loss (total (W (Proc.devRef .tc main_v4_3))) := by
  unfold hostOps1
  after_results_simp
  rfl

end lines

variable (m : (ℓ : Loc nD τ sig) → Buf (Elt Ideal) ℓ) (c : Dev nD)

/-- What the kernel finds in the reshaped argument 0. -/
theorem V_main_v0 : V m c main_v0
    = shapeCast S24576x128 (m ((c : Thread nD τ).loc main_arg0)) shapeCasts_S4096x6x128_S24576x128 := by
  unfold V V0
  rw [List.flatten_singleton]
  exact before_v0 _

/-- What the kernel finds in the reshaped argument 2. -/
theorem V_main_v1 : V m c main_v1
    = shapeCast S1x256 (m ((c : Thread nD τ).loc main_arg2)) shapeCasts_S256_S1x256 := by
  unfold V V0
  rw [List.flatten_singleton]
  exact before_v1 _

/-- What the kernel finds in the reshaped argument 4. -/
theorem V_main_v2 : V m c main_v2
    = shapeCast S1x128 (m ((c : Thread nD τ).loc main_arg4)) shapeCasts_S128_S1x128 := by
  unfold V V0
  rw [List.flatten_singleton]
  exact before_v2 _

/-- What the kernel finds in the reshaped argument 6. -/
theorem V_main_v3 : V m c main_v3
    = shapeCast S1x6 (m ((c : Thread nD τ).loc main_arg6)) shapeCasts_S6_S1x6 := by
  unfold V V0
  rw [List.flatten_singleton]
  exact before_v3 _

/-- The trajectories at the end, from the array the kernel wrote. -/
theorem end_v5 : Pipeline.afterTail₀ cfgs (dats m) 0 (V0 m) [hostOps1] c main_v5
    = shapeCast S4096x6x60x2 ((dats m 0 c).arrAt 19 cfg0.N) shapeCasts_S24576x120_S4096x6x60x2 := by
  unfold Pipeline.afterTail₀
  rw [List.flatten_singleton, after_v5]
  exact congrArg (fun x => shapeCast S4096x6x60x2 x shapeCasts_S24576x120_S4096x6x60x2)
    (Pipeline.withArrays_arr spec0 winFacts0.arr_inj c (V0 m c) _ (19 : Fin 23))

/-- The scores at the end, from the array the kernel wrote. -/
theorem end_v6 : Pipeline.afterTail₀ cfgs (dats m) 0 (V0 m) [hostOps1] c main_v6
    = shapeCast S4096x6 ((dats m 0 c).arrAt 20 cfg0.N) shapeCasts_S24576x1_S4096x6 := by
  unfold Pipeline.afterTail₀
  rw [List.flatten_singleton, after_v6]
  exact congrArg (fun x => shapeCast S4096x6 x shapeCasts_S24576x1_S4096x6)
    (Pipeline.withArrays_arr spec0 winFacts0.arr_inj c (V0 m c) _ (20 : Fin 23))

/-- The probabilities at the end, from the array the kernel wrote. -/
theorem end_v7 : Pipeline.afterTail₀ cfgs (dats m) 0 (V0 m) [hostOps1] c main_v7
    = shapeCast S4096x6x6 ((dats m 0 c).arrAt 21 cfg0.N) shapeCasts_S24576x6_S4096x6x6 := by
  unfold Pipeline.afterTail₀
  rw [List.flatten_singleton, after_v7]
  exact congrArg (fun x => shapeCast S4096x6x6 x shapeCasts_S24576x6_S4096x6x6)
    (Pipeline.withArrays_arr spec0 winFacts0.arr_inj c (V0 m c) _ (21 : Fin 23))

/-- The auxiliary loss at the end, from the array the kernel wrote. -/
theorem end_v28 : Pipeline.afterTail₀ cfgs (dats m) 0 (V0 m) [hostOps1] c main_v28
    = loss (total ((dats m 0 c).arrAt 22 cfg0.N)) := by
  unfold Pipeline.afterTail₀
  rw [List.flatten_singleton, after_v28]
  exact congrArg (fun x => loss (total x))
    (Pipeline.withArrays_arr spec0 winFacts0.arr_inj c (V0 m c) _ (22 : Fin 23))

end Cert.KernelIdeal.Value
-- ==== Proof.KernelArrays.lean ====
module
public import proofs.«01_k».proof.Proof.KernelTile
public import proofs.«01_k».proof.Proof.KernelHost

/-!
# The blocks a grid step reads

Grid step `t` reads rows `1024 t` to `1024 t + 1023` of the tokens, and the whole of every weight array.
-/

@[expose] public section
set_option maxRecDepth 16384
noncomputable section
namespace Cert.KernelIdeal.Value
open Idealize.ShloMosaic Idealize.ShloMosaic.TcCoe Idealize.SL.Sem
open Cert.KernelIdeal Cert.KernelIdeal.Gen Cert.Moe

/-- Which block every window is at. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0, 0] ∧ win0_8.index t = ![0, 0] ∧ win0_9.index t = ![0, 0, 0] ∧ win0_10.index t = ![0, 0]
    ∧ win0_11.index t = ![0, 0, 0] ∧ win0_12.index t = ![0, 0] ∧ win0_13.index t = ![0, 0, 0]
    ∧ win0_14.index t = ![0, 0] ∧ win0_15.index t = ![0, 0, 0] ∧ win0_16.index t = ![0, 0]
    ∧ win0_17.index t = ![0, 0, 0] ∧ win0_18.index t = ![0, 0]
    ∧ win0_19.index t = ![t.val, 0] ∧ win0_20.index t = ![t.val, 0] ∧ win0_21.index t = ![t.val, 0]
    ∧ win0_22.index t = ![t.val, 0, 0] ∧ t.val < 24 :=
  (by decide +kernel : ∀ t : Fin grid0.N, _)

/-- The token in row `r` of tile `t`. -/
def tokenOf (t : Fin cfg0.N) (r : Fin 1024) : Fin 24576 :=
  ⟨t.val * 1024 + r.val, by have := (idx t).2.2.2.2.2.2.2.2.2.2.2.2.2.2.2.2.2.2.2.2.2.2.2; omega⟩

variable (m : (ℓ : Loc nD τ sig) → Buf (Elt Ideal) ℓ) (c : Dev nD) (t : Fin cfg0.N)

/-- Block 1 is the whole of argument 1. -/
theorem whole_1 : iblk m c 1 t = m ((c : Thread nD τ).loc main_arg1) := by blk_ext! [iblk, V, idx t]

/-- Block 3 is the whole of argument 3. -/
theorem whole_3 : iblk m c 3 t = m ((c : Thread nD τ).loc main_arg3) := by blk_ext! [iblk, V, idx t]

/-- Block 5 is the whole of argument 5. -/
theorem whole_5 : iblk m c 5 t = m ((c : Thread nD τ).loc main_arg5) := by blk_ext! [iblk, V, idx t]

/-- Block 7 is the whole of argument 7. -/
theorem whole_7 : iblk m c 7 t = m ((c : Thread nD τ).loc main_arg7) := by blk_ext! [iblk, V, idx t]

/-- Block 8 is the whole of argument 8. -/
theorem whole_8 : iblk m c 8 t = m ((c : Thread nD τ).loc main_arg8) := by blk_ext! [iblk, V, idx t]

/-- Block 9 is the whole of argument 9. -/
theorem whole_9 : iblk m c 9 t = m ((c : Thread nD τ).loc main_arg9) := by blk_ext! [iblk, V, idx t]

/-- Block 10 is the whole of argument 10. -/
theorem whole_10 : iblk m c 10 t = m ((c : Thread nD τ).loc main_arg10) := by blk_ext! [iblk, V, idx t]

/-- Block 11 is the whole of argument 11. -/
theorem whole_11 : iblk m c 11 t = m ((c : Thread nD τ).loc main_arg11) := by blk_ext! [iblk, V, idx t]

/-- Block 12 is the whole of argument 12. -/
theorem whole_12 : iblk m c 12 t = m ((c : Thread nD τ).loc main_arg12) := by blk_ext! [iblk, V, idx t]

/-- Block 13 is the whole of argument 13. -/
theorem whole_13 : iblk m c 13 t = m ((c : Thread nD τ).loc main_arg13) := by blk_ext! [iblk, V, idx t]

/-- Block 14 is the whole of argument 14. -/
theorem whole_14 : iblk m c 14 t = m ((c : Thread nD τ).loc main_arg14) := by blk_ext! [iblk, V, idx t]

/-- Block 15 is the whole of argument 15. -/
theorem whole_15 : iblk m c 15 t = m ((c : Thread nD τ).loc main_arg15) := by blk_ext! [iblk, V, idx t]

/-- Block 16 is the whole of argument 16. -/
theorem whole_16 : iblk m c 16 t = m ((c : Thread nD τ).loc main_arg16) := by blk_ext! [iblk, V, idx t]

/-- Block 17 is the whole of argument 17. -/
theorem whole_17 : iblk m c 17 t = m ((c : Thread nD τ).loc main_arg17) := by blk_ext! [iblk, V, idx t]

/-- Block 18 is the whole of argument 18. -/
theorem whole_18 : iblk m c 18 t = m ((c : Thread nD τ).loc main_arg18) := by blk_ext! [iblk, V, idx t]

/-- Block 2 is the row argument 2 was reshaped to. -/
theorem row_2 (n : Fin 256) : (show FVec Ideal S1x256 .f32 from iblk m c 2 t) (ix2 0 n)
    = (show FVec Ideal S256 .f32 from m ((c : Thread nD τ).loc main_arg2)) (ix1 n) := by
  show V m c main_v1 (((cfg0.win 2).blk t).view.emb (ix2 0 n)) = _
  have e : ((cfg0.win 2).blk t).view.emb (ix2 0 n) = (ix2 0 n : S1x256.Idx) := by blk_ext [idx t]
  rw [V_main_v1]
  refine (congrArg _ e).trans ?_
  pointwise

/-- Block 4 is the row argument 4 was reshaped to. -/
theorem row_4 (n : Fin 128) : (show FVec Ideal S1x128 .f32 from iblk m c 4 t) (ix2 0 n)
    = (show FVec Ideal S128 .f32 from m ((c : Thread nD τ).loc main_arg4)) (ix1 n) := by
  show V m c main_v2 (((cfg0.win 4).blk t).view.emb (ix2 0 n)) = _
  have e : ((cfg0.win 4).blk t).view.emb (ix2 0 n) = (ix2 0 n : S1x128.Idx) := by blk_ext [idx t]
  rw [V_main_v2]
  refine (congrArg _ e).trans ?_
  pointwise

/-- Block 6 is the row argument 6 was reshaped to. -/
theorem row_6 (n : Fin 6) : (show FVec Ideal S1x6 .f32 from iblk m c 6 t) (ix2 0 n)
    = (show FVec Ideal S6 .f32 from m ((c : Thread nD τ).loc main_arg6)) (ix1 n) := by
  show V m c main_v3 (((cfg0.win 6).blk t).view.emb (ix2 0 n)) = _
  have e : ((cfg0.win 6).blk t).view.emb (ix2 0 n) = (ix2 0 n : S1x6.Idx) := by blk_ext [idx t]
  rw [V_main_v3]
  refine (congrArg _ e).trans ?_
  pointwise

/-- A reshape from scenes and modes to tokens reads a token's features. -/
theorem flat (x : FVec Ideal S4096x6x128 .f32) (q : Fin 24576) (k : Fin 128) :
    shapeCast S24576x128 x shapeCasts_S4096x6x128_S24576x128 (ix2 q k) = token x q k := by
  pointwise
  rfl

/-- Row `r` of block 0 holds the features of its token. -/
theorem row_0 (r : Fin 1024) (k : Fin 128) : (show FVec Ideal S1024x128 .f32 from iblk m c 0 t) (ix2 r k)
    = token (m ((c : Thread nD τ).loc main_arg0)) (tokenOf t r) k := by
  show V m c main_v0 (((cfg0.win 0).blk t).view.emb (ix2 r k)) = _
  have e : ((cfg0.win 0).blk t).view.emb (ix2 r k) = (ix2 (tokenOf t r) k : S24576x128.Idx) := by
    unfold tokenOf
    blk_ext [idx t]
  rw [V_main_v0]
  refine (congrArg _ e).trans ?_
  exact flat _ _ _

end Cert.KernelIdeal.Value
-- ==== Proof.TopK.lean ====
/- The stable top-k of a row of six: its first two positions are the greatest value and the greatest of the others,
   the lower position first among equals. -/
module

public import proofs.«01_k».proof.Proof.Spec
public import Idealize.ShloMosaic.Lib.SortPrefix
public import Idealize.ShloMosaic.Lib.Pointwise

@[expose] public section

set_option maxRecDepth 16384

noncomputable section

namespace Cert.Moe

open Idealize.ShloMosaic

/-- A stable sort by "greater first" of an ascending list of positions leaves each earlier element not below a later
    one, and at the lower position where the two are equal. -/
theorem stable_pairs {n : Nat} (l : Fin n → EReal) (R : Fin n → Fin n → Bool) (hR : ∀ k k', R k k' = true ↔ l k' < l k) :
    ∀ L : List (Fin n), L.Pairwise (· < ·) →
      (stableSort R L).Pairwise fun b c => l c ≤ l b ∧ (l c = l b → b < c) := by
  have ins : ∀ (a : Fin n) (m : List (Fin n)), (∀ c ∈ m, a < c) →
      m.Pairwise (fun b c => l c ≤ l b ∧ (l c = l b → b < c)) →
      (insertBefore R a m).Pairwise (fun b c => l c ≤ l b ∧ (l c = l b → b < c)) := by
    intro a m
    induction m with
    | nil => intro _ _; simp [insertBefore]
    | cons b m ih =>
      intro ha hm
      rw [List.pairwise_cons] at hm
      unfold insertBefore
      by_cases hb : R b a = true
      · rw [if_pos hb, List.pairwise_cons]
        refine ⟨fun c hc => ?_, ih (fun c hc => ha c (List.mem_cons_of_mem _ hc)) hm.2⟩
        rcases List.mem_cons.1 ((perm_insertBefore R a m).mem_iff.1 hc) with rfl | hc
        · have hlt := (hR b c).1 hb
          exact ⟨hlt.le, fun h => absurd h hlt.ne⟩
        · exact hm.1 c hc
      · rw [if_neg hb, List.pairwise_cons]
        refine ⟨fun c hc => ?_, List.pairwise_cons.2 hm⟩
        have hba : l b ≤ l a := not_lt.1 fun h => hb ((hR b a).2 h)
        refine ⟨?_, fun _ => ha c hc⟩
        rcases List.mem_cons.1 hc with rfl | hc
        · exact hba
        · exact ((hm.1 c hc).1).trans hba
  intro L
  induction L with
  | nil => intro _; exact List.Pairwise.nil
  | cons a L ih =>
    intro hL
    rw [List.pairwise_cons] at hL
    exact ins a _ (fun c hc => hL.1 c ((perm_stableSort R L).mem_iff.1 hc)) (ih hL.2)

/-- The same of the sorted positions of a row. -/
theorem sortedFrom_pairs {n : Nat} (l : Fin n → EReal) (R : Fin n → Fin n → Bool) (hR : ∀ k k', R k k' = true ↔ l k' < l k)
    (i j : Fin n) (h : i < j) :
    l (sortedFrom R j) ≤ l (sortedFrom R i) ∧ (l (sortedFrom R j) = l (sortedFrom R i) → sortedFrom R i < sortedFrom R j) := by
  have hp := stable_pairs l R hR (List.finRange n) (List.pairwise_lt_finRange n)
  exact List.pairwise_iff_getElem.1 hp i.val j.val _ _ h

/-- The first two sorted positions of a row of six are its two greatest. -/
theorem sortedFrom_top2 (l : Fin 6 → EReal) (R : Fin 6 → Fin 6 → Bool) (hR : ∀ k k', R k k' = true ↔ l k' < l k) :
    Top2 l (sortedFrom R 0) (sortedFrom R 1) := by
  have pairs := sortedFrom_pairs l R hR
  refine ⟨fun h => absurd (sortedFrom_injective R h) (by decide), fun j => ?_, fun j hj h => ?_, fun j hj => ?_,
    fun j hj hjb h => ?_⟩ <;> obtain ⟨i, rfl⟩ := sortedFrom_surjective R j
  · rcases Fin.eq_zero_or_eq_succ i with rfl | ⟨k, rfl⟩
    · exact le_rfl
    · exact (pairs 0 k.succ (Fin.succ_pos k)).1
  · rcases Fin.eq_zero_or_eq_succ i with rfl | ⟨k, rfl⟩
    · exact lt_irrefl _ hj
    · exact lt_asymm hj ((pairs 0 k.succ (Fin.succ_pos k)).2 h)
  · have h0 : i ≠ 0 := fun h => hj (by rw [h])
    rcases eq_or_ne i 1 with rfl | h1
    · exact le_rfl
    · exact (pairs 1 i (by omega)).1
  · have h0 : i ≠ 0 := fun h => hj (by rw [h])
    rcases eq_or_ne i 1 with rfl | h1
    · exact lt_irrefl _ hjb
    · exact lt_asymm hjb ((pairs 1 i (by omega)).2 h)

theorem along_ix2 {N M : Nat} (r : Fin N) (q k : Fin M) :
    Shape.Idx.along (s := ⟨2, ![N, M]⟩) (ix2 r q) 1 k = ix2 r k := by
  funext c
  refine Fin.ext ?_
  match c with
  | ⟨0, _⟩ => rfl
  | ⟨1, _⟩ => rfl

theorem slice_ix2 {α : Type} {N : Nat} (x : (⟨2, ![N, 6]⟩ : Shape).Idx → α)
    (h : (⟨2, ![N, 6]⟩ : Shape).Slices (fun _ => 0) ⟨2, ![N, 2]⟩) (r : Fin N) (q : Fin 2) :
    extractStridedSlice ⟨2, ![N, 2]⟩ (fun _ => 0) x h (ix2 r q) = x (ix2 r (Fin.castLE (by decide) q)) := by
  unfold extractStridedSlice
  congr 1
  funext c
  refine Fin.ext ?_
  match c with
  | ⟨0, _⟩ => exact Nat.zero_add _
  | ⟨1, _⟩ => exact Nat.zero_add _

/-- The stable top-2 of a row of an array of six columns: there are positions `a`, `b` of that row, its two greatest,
    whose values and whose indices as words are the two columns. -/
theorem topK_row {N : Nat} (x : (⟨2, ![N, 6]⟩ : Shape).Idx → EReal)
    (h : (⟨2, ![N, 6]⟩ : Shape).Slices (fun _ => 0) ⟨2, ![N, 2]⟩) (r : Fin N) :
    ∃ a b : Fin 6, Top2 (fun j => x (ix2 r j)) a b
      ∧ (Host.topK ⟨2, ![N, 2]⟩ 1 (FloatOps.cmpfTotal (F := Ideal) (φ := .f32) .gt) x h).1 (ix2 r 0) = x (ix2 r a)
      ∧ (Host.topK ⟨2, ![N, 2]⟩ 1 (FloatOps.cmpfTotal (F := Ideal) (φ := .f32) .gt) x h).1 (ix2 r 1) = x (ix2 r b)
      ∧ (Host.topK ⟨2, ![N, 2]⟩ 1 (FloatOps.cmpfTotal (F := Ideal) (φ := .f32) .gt) x h).2 (ix2 r 0) = BitVec.ofNat 32 a.val
      ∧ (Host.topK ⟨2, ![N, 2]⟩ 1 (FloatOps.cmpfTotal (F := Ideal) (φ := .f32) .gt) x h).2 (ix2 r 1) = BitVec.ofNat 32 b.val := by
  let R : Fin 6 → Fin 6 → Bool := fun k k' =>
    FloatOps.cmpfTotal (F := Ideal) (φ := .f32) .gt (x (ix2 r k)) (x (ix2 r k')) == 1#1
  have hR : ∀ k k', R k k' = true ↔ x (ix2 r k') < x (ix2 r k) := by
    intro k k'
    show (BitVec.ofBool (decide (x (ix2 r k') < x (ix2 r k))) == 1#1) = true ↔ _
    by_cases hlt : x (ix2 r k') < x (ix2 r k) <;> simp [hlt]
  have hs : ∀ (y : IVec ⟨2, ![N, 6]⟩ 32) (q : Fin 6),
      (Host.sort2 ⟨2, ![N, 6]⟩ 1 (fun l r => FloatOps.cmpfTotal (F := Ideal) (φ := .f32) .gt l.1 r.1) x y).1 (ix2 r q)
          = x (ix2 r (sortedFrom R q))
        ∧ (Host.sort2 ⟨2, ![N, 6]⟩ 1 (fun l r => FloatOps.cmpfTotal (F := Ideal) (φ := .f32) .gt l.1 r.1) x y).2 (ix2 r q)
          = y (ix2 r (sortedFrom R q)) := by
    intro y q
    have e : (fun k k' : Fin 6 => FloatOps.cmpfTotal (F := Ideal) (φ := .f32) .gt
        (x (Shape.Idx.along (s := ⟨2, ![N, 6]⟩) (ix2 r q) 1 k)) (x (Shape.Idx.along (s := ⟨2, ![N, 6]⟩) (ix2 r q) 1 k')) == 1#1) = R := by
      funext k k'
      rw [along_ix2, along_ix2]
    constructor
    · exact (congrArg x (along_ix2 r q _)).trans (congrArg (fun S => x (ix2 r (sortedFrom S q))) e)
    · exact (congrArg y (along_ix2 r q _)).trans (congrArg (fun S => y (ix2 r (sortedFrom S q))) e)
  let y : IVec ⟨2, ![N, 6]⟩ 32 := fun i => if hd : 1 < 2 then iotaInDim ⟨2, ![N, 6]⟩ 32 ⟨1, hd⟩ i else 0#32
  exact ⟨sortedFrom R 0, sortedFrom R 1, sortedFrom_top2 _ R hR, (slice_ix2 _ h r 0).trans (hs y 0).1,
    (slice_ix2 _ h r 1).trans (hs y 1).1, (slice_ix2 _ h r 0).trans (hs y 0).2, (slice_ix2 _ h r 1).trans (hs y 1).2⟩

end Cert.Moe
-- ==== Proof.Gather.lean ====
/- The two gathers of the chosen expert's row: at start indices (expert, token) inside the array, an entry of the
   result is the array's entry of that expert and that token. -/
module

public import Idealize.ShloMosaic.Lib.Pointwise
public import Idealize.ShloMosaic.Lib.ValueIdx

@[expose] public section

set_option maxRecDepth 16384

noncomputable section

namespace Cert.Moe

open Idealize.ShloMosaic

/-- A small position as a word reads back, signed, as itself. -/
theorem toInt_toNat_ofNat {k : ℕ} (h : k < 2 ^ 31) : (BitVec.ofNat 32 k).toInt.toNat = k := by
  have hk : (BitVec.ofNat 32 k).toNat = k := by
    rw [BitVec.toNat_ofNat]
    omega
  rw [BitVec.toInt_eq_toNat_of_lt (by omega), hk]
  rfl

/-- The dimension numbers of `x[i, j, :]` for two arrays of positions `i`, `j`, side by side as start indices. -/
abbrev rowDims (E N D : ℕ)
    (wf : GatherDims.WF ⟨3, ![E, N, D]⟩ ⟨2, ![N, 2]⟩ ⟨2, ![N, D]⟩ [1] [0, 1] [] [0, 1] [] 1 ![1, 1, D]) :
    GatherDims ⟨3, ![E, N, D]⟩ ⟨2, ![N, 2]⟩ ⟨2, ![N, D]⟩ where
  offsetDims := [1]
  collapsedSliceDims := [0, 1]
  operandBatchingDims := []
  startIndicesBatchingDims := []
  startIndexMap := [0, 1]
  indexVectorDim := 1
  sliceSizes := ![1, 1, D]
  wf := wf

/-- The dimension numbers of `x[i, j]`. -/
abbrev cellDims (E N : ℕ)
    (wf : GatherDims.WF ⟨2, ![E, N]⟩ ⟨2, ![N, 2]⟩ ⟨1, ![N]⟩ [] [0, 1] [] [0, 1] [] 1 ![1, 1]) :
    GatherDims ⟨2, ![E, N]⟩ ⟨2, ![N, 2]⟩ ⟨1, ![N]⟩ where
  offsetDims := []
  collapsedSliceDims := [0, 1]
  operandBatchingDims := []
  startIndicesBatchingDims := []
  startIndexMap := [0, 1]
  indexVectorDim := 1
  sliceSizes := ![1, 1]
  wf := wf

/-- The gathered row: `x[i, j, :]` at positions inside the array. -/
theorem gather_row {α : Type} {E N D : ℕ} (hE : E < 2 ^ 31) (hN : N < 2 ^ 31)
    (wf : GatherDims.WF ⟨3, ![E, N, D]⟩ ⟨2, ![N, 2]⟩ ⟨2, ![N, D]⟩ [1] [0, 1] [] [0, 1] [] 1 ![1, 1, D])
    (x : (⟨3, ![E, N, D]⟩ : Shape).Idx → α) (idx : IVec ⟨2, ![N, 2]⟩ 32) (r : Fin N) (n : Fin D) (a : Fin E) (b : Fin N)
    (h0 : idx (ix2 r 0) = BitVec.ofNat 32 a.val) (h1 : idx (ix2 r 1) = BitVec.ofNat 32 b.val) :
    Host.gather (rowDims E N D wf) x idx (ix2 r n) = x (ix3 a b n) := by
  unfold Host.gather
  congr 1
  funext c
  refine Fin.ext ?_
  show (rowDims E N D wf).start (ix2 r n) idx c + (rowDims E N D wf).batchCoord (ix2 r n) c
    + (rowDims E N D wf).offCoord (ix2 r n) c = _
  rw [GatherDims.batchCoord_eq_zero _ _ _ List.not_mem_nil, Nat.add_zero]
  have hsi : ∀ q : Fin 2, (rowDims E N D wf).siIdx (ix2 r n) q = ix2 r q := fun q => by
    funext d
    refine Fin.ext ?_
    match d with
    | ⟨0, _⟩ => rfl
    | ⟨1, _⟩ => rfl
  have hc : c = 0 ∨ c = 1 ∨ c = 2 := by
    match c with
    | ⟨0, _⟩ => exact Or.inl rfl
    | ⟨1, _⟩ => exact Or.inr (Or.inl rfl)
    | ⟨2, _⟩ => exact Or.inr (Or.inr rfl)
  rcases hc with rfl | rfl | rfl
  · rw [GatherDims.offCoord_eq_zero _ _ _ (fun h => ((GatherDims.mem_sKept _ _).mp h).1 (by simp))]
    unfold GatherDims.start
    rw [dif_pos (show (0 : Fin 3) ∈ (rowDims E N D wf).startIndexMap by simp)]
    have e : (rowDims E N D wf).siIdx (ix2 r n) ⟨List.idxOf (0 : Fin 3) (rowDims E N D wf).startIndexMap,
        List.idxOf_lt_length_iff.2 (by simp)⟩ = ix2 r 0 := hsi 0
    rw [e, h0, toInt_toNat_ofNat (by omega)]
    show min a.val (E - 1) + 0 = a.val
    omega
  · rw [GatherDims.offCoord_eq_zero _ _ _ (fun h => ((GatherDims.mem_sKept _ _).mp h).1 (by simp))]
    unfold GatherDims.start
    rw [dif_pos (show (1 : Fin 3) ∈ (rowDims E N D wf).startIndexMap by simp)]
    have e : (rowDims E N D wf).siIdx (ix2 r n) ⟨List.idxOf (1 : Fin 3) (rowDims E N D wf).startIndexMap,
        List.idxOf_lt_length_iff.2 (by simp)⟩ = ix2 r 1 := hsi 1
    rw [e, h1, toInt_toNat_ofNat (by omega)]
    show min b.val (N - 1) + 0 = b.val
    omega
  · unfold GatherDims.start
    rw [dif_neg (show (2 : Fin 3) ∉ (rowDims E N D wf).startIndexMap by simp), Nat.zero_add]
    rfl

/-- The gathered entry: `x[i, j]` at positions inside the array. -/
theorem gather_cell {α : Type} {E N : ℕ} (hE : E < 2 ^ 31) (hN : N < 2 ^ 31)
    (wf : GatherDims.WF ⟨2, ![E, N]⟩ ⟨2, ![N, 2]⟩ ⟨1, ![N]⟩ [] [0, 1] [] [0, 1] [] 1 ![1, 1])
    (x : (⟨2, ![E, N]⟩ : Shape).Idx → α) (idx : IVec ⟨2, ![N, 2]⟩ 32) (r : Fin N) (a : Fin E) (b : Fin N)
    (h0 : idx (ix2 r 0) = BitVec.ofNat 32 a.val) (h1 : idx (ix2 r 1) = BitVec.ofNat 32 b.val) :
    Host.gather (cellDims E N wf) x idx (ix1 r) = x (ix2 a b) := by
  unfold Host.gather
  congr 1
  funext c
  refine Fin.ext ?_
  show (cellDims E N wf).start (ix1 r) idx c + (cellDims E N wf).batchCoord (ix1 r) c
    + (cellDims E N wf).offCoord (ix1 r) c = _
  rw [GatherDims.batchCoord_eq_zero _ _ _ List.not_mem_nil, Nat.add_zero]
  have hsi : ∀ q : Fin 2, (cellDims E N wf).siIdx (ix1 r) q = ix2 r q := fun q => by
    funext d
    refine Fin.ext ?_
    match d with
    | ⟨0, _⟩ => rfl
    | ⟨1, _⟩ => rfl
  have hc : c = 0 ∨ c = 1 := by
    match c with
    | ⟨0, _⟩ => exact Or.inl rfl
    | ⟨1, _⟩ => exact Or.inr rfl
  rcases hc with rfl | rfl
  · rw [GatherDims.offCoord_eq_zero _ _ _ (fun h => ((GatherDims.mem_sKept _ _).mp h).1 (by simp))]
    unfold GatherDims.start
    rw [dif_pos (show (0 : Fin 2) ∈ (cellDims E N wf).startIndexMap by simp)]
    have e : (cellDims E N wf).siIdx (ix1 r) ⟨List.idxOf (0 : Fin 2) (cellDims E N wf).startIndexMap,
        List.idxOf_lt_length_iff.2 (by simp)⟩ = ix2 r 0 := hsi 0
    rw [e, h0, toInt_toNat_ofNat (by omega)]
    show min a.val (E - 1) + 0 = a.val
    omega
  · rw [GatherDims.offCoord_eq_zero _ _ _ (fun h => ((GatherDims.mem_sKept _ _).mp h).1 (by simp))]
    unfold GatherDims.start
    rw [dif_pos (show (1 : Fin 2) ∈ (cellDims E N wf).startIndexMap by simp)]
    have e : (cellDims E N wf).siIdx (ix1 r) ⟨List.idxOf (1 : Fin 2) (cellDims E N wf).startIndexMap,
        List.idxOf_lt_length_iff.2 (by simp)⟩ = ix2 r 1 := hsi 1
    rw [e, h1, toInt_toNat_ofNat (by omega)]
    show min b.val (N - 1) + 0 = b.val
    omega

end Cert.Moe
-- ==== Proof.Reference.lean ====
/- The reference program's buffers, read an entry at a time: the logits, the softmax, the two greatest logits with
   their weights, the experts' outputs, and the mixtures. -/
module

public import proofs.«01_k».proof.Proof.TopK
public import proofs.«01_k».proof.Proof.Gather
public import proofs.«01_k».proof.Proof.Rows
public import proofs.«01_k».proof.Proof.Gen.ReferenceIdeal.Read

@[expose] public section

set_option maxRecDepth 16384

noncomputable section

namespace Cert.ReferenceIdeal.Read

open Idealize.ShloMosaic Cert.Moe

/-! ## The router -/

theorem v0_at (x0) (r : Fin 24576) (n : Fin 128) : val_main_v0 (F := Ideal) x0 (ix2 r n) = token x0 r n := by
  pointwise [val_main_v0]
  rfl

theorem v12_at (x0) (x1) (x2) (r : Fin 24576) (n : Fin 256) :
    val_main_v12 (F := Ideal) x0 x1 x2 (ix2 r n) = layer (token x0 r) (fun k n => x1 (ix2 k n)) (fun n => x2 (ix1 n)) n := by
  pointwise [val_main_v12, val_main_v11, val_main_v10, val_main_v9, val_main_v8, val_main_v7, val_main_v6, val_main_v5,
    val_main_v4, val_main_v3, val_main_v2, val_main_v1, val_main_cst, val_main_cst_0]
  simp only [v0_at]
  exact gelu_erfc _

theorem v24_at (x0) (x1) (x2) (x3) (x4) (r : Fin 24576) (n : Fin 128) :
    val_main_v24 (F := Ideal) x0 x1 x2 x3 x4 (ix2 r n)
      = layer (layer (token x0 r) (fun k n => x1 (ix2 k n)) (fun n => x2 (ix1 n))) (fun k n => x3 (ix2 k n)) (fun n => x4 (ix1 n)) n := by
  pointwise [val_main_v24, val_main_v23, val_main_v22, val_main_v21, val_main_v20, val_main_v19, val_main_v18,
    val_main_v17, val_main_v16, val_main_v15, val_main_v14, val_main_v13, val_main_cst_1, val_main_cst_2]
  simp only [v12_at]
  exact gelu_erfc _

/-- The logits of a token. -/
theorem v28_at (x0) (x1) (x2) (x3) (x4) (x5) (x6) (r : Fin 24576) (n : Fin 6) :
    val_main_v28 (F := Ideal) x0 x1 x2 x3 x4 x5 x6 (ix2 r n) = router x1 x2 x3 x4 x5 x6 (token x0 r) n := by
  pointwise [val_main_v28, val_main_v27, val_main_v26, val_main_v25]
  simp only [v24_at]
  rfl

/-- The word of minus infinity. -/
theorem ninf : Ideal.ofBits .f32 0xFF800000#32 = ⊥ := by
  simp [Ideal.ofBits, Ideal.ieee]

theorem v35_at (x0) (x1) (x2) (x3) (x4) (x5) (x6) (r : Fin 24576) (n : Fin 6) :
    val_main_v35 (F := Ideal) x0 x1 x2 x3 x4 x5 x6 (ix2 r n)
      = Ideal.exp (router x1 x2 x3 x4 x5 x6 (token x0 r) n - peak (router x1 x2 x3 x4 x5 x6 (token x0 r))) := by
  pointwise [val_main_v35, val_main_v34, val_main_v33, val_main_v32, val_main_v31, val_main_v30, val_main_v29,
    val_main_cst_3, val_main_cst_4]
  simp only [v28_at, ninf, bot_sup_eq, max_bot_left]
  rfl

/-- The probabilities of a token. -/
theorem v39_at (x0) (x1) (x2) (x3) (x4) (x5) (x6) (r : Fin 24576) (n : Fin 6) :
    val_main_v39 (F := Ideal) x0 x1 x2 x3 x4 x5 x6 (ix2 r n) = softmax (router x1 x2 x3 x4 x5 x6 (token x0 r)) n := by
  pointwise [val_main_v39, val_main_v38, val_main_v37, val_main_v36, val_main_cst_5]
  simp only [v35_at]
  rfl

/-! ## The two greatest logits and their weights -/

theorem v50_at (x0) (x1) (x2) (x3) (x4) (x5) (x6) (r : Fin 24576) (n : Fin 2) :
    val_main_v50 (F := Ideal) x0 x1 x2 x3 x4 x5 x6 (ix2 r n)
      = Ideal.div
          (Ideal.exp (val_main_values (F := Ideal) x0 x1 x2 x3 x4 x5 x6 (ix2 r n)
            - Finset.univ.fold max ⊥ fun k => val_main_values (F := Ideal) x0 x1 x2 x3 x4 x5 x6 (ix2 r k)))
          (∑ k, Ideal.exp (val_main_values (F := Ideal) x0 x1 x2 x3 x4 x5 x6 (ix2 r k)
            - Finset.univ.fold max ⊥ fun k => val_main_values (F := Ideal) x0 x1 x2 x3 x4 x5 x6 (ix2 r k))) := by
  pointwise [val_main_v50, val_main_v49, val_main_v48, val_main_v47, val_main_v46, val_main_v45, val_main_v44,
    val_main_v43, val_main_v42, val_main_v41, val_main_v40, val_main_cst_6, val_main_cst_7, val_main_cst_8]
  simp only [ninf, bot_sup_eq, max_bot_left]

/-- A token's two greatest logits: their positions as words, and the two weights. -/
theorem chosen (x0) (x1) (x2) (x3) (x4) (x5) (x6) (r : Fin 24576) (hl : ∀ j, Finite (router x1 x2 x3 x4 x5 x6 (token x0 r) j)) :
    ∃ a b : Fin 6, Top2 (router x1 x2 x3 x4 x5 x6 (token x0 r)) a b
      ∧ val_main_indices (F := Ideal) x0 x1 x2 x3 x4 x5 x6 (ix2 r 0) = BitVec.ofNat 32 a.val
      ∧ val_main_indices (F := Ideal) x0 x1 x2 x3 x4 x5 x6 (ix2 r 1) = BitVec.ofNat 32 b.val
      ∧ val_main_v50 (F := Ideal) x0 x1 x2 x3 x4 x5 x6 (ix2 r 0)
          = weight₀ (router x1 x2 x3 x4 x5 x6 (token x0 r) a) (router x1 x2 x3 x4 x5 x6 (token x0 r) b)
      ∧ val_main_v50 (F := Ideal) x0 x1 x2 x3 x4 x5 x6 (ix2 r 1)
          = weight₁ (router x1 x2 x3 x4 x5 x6 (token x0 r) a) (router x1 x2 x3 x4 x5 x6 (token x0 r) b) := by
  obtain ⟨a, b, ht, v0, v1, i0, i1⟩ := topK_row (val_main_v28 (F := Ideal) x0 x1 x2 x3 x4 x5 x6) _ r
  simp only [v28_at] at ht v0 v1
  have p := pair_softmax (hl a) (ht.fst b) (fun k => val_main_values (F := Ideal) x0 x1 x2 x3 x4 x5 x6 (ix2 r k)) v0 v1
  refine ⟨a, b, ht, i0, i1, ?_, ?_⟩
  · rw [v50_at, p.1]
    exact p.2.1
  · rw [v50_at, p.1]
    exact p.2.2

/-! ## The experts -/

theorem v63_at (x0) (x7) (x8) (e : Fin 6) (r : Fin 24576) (n : Fin 256) :
    val_main_v63 (F := Ideal) x0 x7 x8 (ix3 e r n)
      = layer (token x0 r) (fun k n => x7 (ix3 e k n)) (fun n => x8 (ix2 e n)) n := by
  pointwise [val_main_v63, val_main_v62, val_main_v61, val_main_v60, val_main_v59, val_main_v58, val_main_v57,
    val_main_v56, val_main_v55, val_main_v54, val_main_v53, val_main_v52, val_main_v51, val_main_cst_9,
    val_main_cst_10]
  simp only [v0_at, mul_comm (x7 _)]
  exact gelu_erfc _

theorem v75_at (x0) (x7) (x8) (x9) (x10) (e : Fin 6) (r : Fin 24576) (n : Fin 256) :
    val_main_v75 (F := Ideal) x0 x7 x8 x9 x10 (ix3 e r n)
      = layer (layer (token x0 r) (fun k n => x7 (ix3 e k n)) (fun n => x8 (ix2 e n))) (fun k n => x9 (ix3 e k n))
          (fun n => x10 (ix2 e n)) n := by
  pointwise [val_main_v75, val_main_v74, val_main_v73, val_main_v72, val_main_v71, val_main_v70, val_main_v69,
    val_main_v68, val_main_v67, val_main_v66, val_main_v65, val_main_v64, val_main_cst_11, val_main_cst_12]
  simp only [v63_at]
  exact gelu_erfc _

/-- The path of an expert for a token. -/
theorem v79_at (x0) (x7) (x8) (x9) (x10) (x11) (x12) (e : Fin 6) (r : Fin 24576) (n : Fin 120) :
    val_main_v79 (F := Ideal) x0 x7 x8 x9 x10 x11 x12 (ix3 e r n) = expert x7 x8 x9 x10 x11 x12 (token x0 r) e n := by
  pointwise [val_main_v79, val_main_v78, val_main_v77, val_main_v76]
  simp only [v75_at]
  rfl

theorem v92_at (x0) (x13) (x14) (e : Fin 6) (r : Fin 24576) (n : Fin 128) :
    val_main_v92 (F := Ideal) x0 x13 x14 (ix3 e r n)
      = layer (token x0 r) (fun k n => x13 (ix3 e k n)) (fun n => x14 (ix2 e n)) n := by
  pointwise [val_main_v92, val_main_v91, val_main_v90, val_main_v89, val_main_v88, val_main_v87, val_main_v86,
    val_main_v85, val_main_v84, val_main_v83, val_main_v82, val_main_v81, val_main_v80, val_main_cst_13,
    val_main_cst_14]
  simp only [v0_at, mul_comm (x13 _)]
  exact gelu_erfc _

theorem v104_at (x0) (x13) (x14) (x15) (x16) (e : Fin 6) (r : Fin 24576) (n : Fin 64) :
    val_main_v104 (F := Ideal) x0 x13 x14 x15 x16 (ix3 e r n)
      = layer (layer (token x0 r) (fun k n => x13 (ix3 e k n)) (fun n => x14 (ix2 e n))) (fun k n => x15 (ix3 e k n))
          (fun n => x16 (ix2 e n)) n := by
  pointwise [val_main_v104, val_main_v103, val_main_v102, val_main_v101, val_main_v100, val_main_v99, val_main_v98,
    val_main_v97, val_main_v96, val_main_v95, val_main_v94, val_main_v93, val_main_cst_15, val_main_cst_16]
  simp only [v92_at]
  exact gelu_erfc _

/-- The score of an expert for a token. -/
theorem v109_at (x0) (x13) (x14) (x15) (x16) (x17) (x18) (e : Fin 6) (r : Fin 24576) :
    val_main_v109 (F := Ideal) x0 x13 x14 x15 x16 x17 x18 (ix2 e r) = expert x13 x14 x15 x16 x17 x18 (token x0 r) e 0 := by
  pointwise [val_main_v109, val_main_v108, val_main_v107, val_main_v106, val_main_v105]
  simp only [v104_at]
  rfl

/-! ## The mixtures -/

/-- A position below the sign bit is not negative, so nothing is added to it. -/
theorem not_wrapped {k : ℕ} (h : k < 2 ^ 31) (w : BitVec 32) :
    Scalar.select (IntOp.cmpi .slt (BitVec.ofNat 32 k) 0#32) w (BitVec.ofNat 32 k) = BitVec.ofNat 32 k := by
  have hk : (BitVec.ofNat 32 k).toNat = k := by
    rw [BitVec.toNat_ofNat]
    omega
  have hi : (BitVec.ofNat 32 k).toInt = k := by
    rw [BitVec.toInt_eq_toNat_of_lt (by omega), hk]
  have hn : IntOp.cmpi .slt (BitVec.ofNat 32 k) 0#32 = 0#1 := by
    show BitVec.ofBool (BitVec.slt (BitVec.ofNat 32 k) 0#32) = 0#1
    have : BitVec.slt (BitVec.ofNat 32 k) 0#32 = false := by
      rw [BitVec.slt, hi]
      simp
    rw [this]
    rfl
  rw [hn]
  rfl

/-- The start indices of a gather: the chosen expert, then the token. -/
theorem v130_at (x0) (x1) (x2) (x3) (x4) (x5) (x6) (r : Fin 24576) (a : Fin 6)
    (ha : val_main_indices (F := Ideal) x0 x1 x2 x3 x4 x5 x6 (ix2 r 0) = BitVec.ofNat 32 a.val) :
    val_main_v130 (F := Ideal) x0 x1 x2 x3 x4 x5 x6 (ix2 r 0) = BitVec.ofNat 32 a.val
      ∧ val_main_v130 (F := Ideal) x0 x1 x2 x3 x4 x5 x6 (ix2 r 1) = BitVec.ofNat 32 r.val := by
  constructor
  · pointwise [val_main_v130, val_main_v129, val_main_v128, val_main_v127, val_main_v126, val_main_v125, val_main_v124,
    val_main_v123, val_main_v122, val_main_v121, val_main_v120, val_main_v119, val_main_v118, val_main_v110,
    val_main_v113, val_main_v114, val_main_c, val_main_c_19, val_main_c_20, val_main_c_21]
    rw [ha]
    exact not_wrapped (by omega) _
  · pointwise [val_main_v130, val_main_v129, val_main_v128, val_main_v127, val_main_v126, val_main_v125, val_main_v124,
    val_main_v123, val_main_v122, val_main_v121, val_main_v120, val_main_v119, val_main_v118, val_main_v110,
    val_main_v113, val_main_v114, val_main_c, val_main_c_19, val_main_c_20, val_main_c_21]
    exact not_wrapped (by omega) _

/-- The start indices of a gather: the chosen expert, then the token. -/
theorem v147_at (x0) (x1) (x2) (x3) (x4) (x5) (x6) (r : Fin 24576) (a : Fin 6)
    (ha : val_main_indices (F := Ideal) x0 x1 x2 x3 x4 x5 x6 (ix2 r 0) = BitVec.ofNat 32 a.val) :
    val_main_v147 (F := Ideal) x0 x1 x2 x3 x4 x5 x6 (ix2 r 0) = BitVec.ofNat 32 a.val
      ∧ val_main_v147 (F := Ideal) x0 x1 x2 x3 x4 x5 x6 (ix2 r 1) = BitVec.ofNat 32 r.val := by
  constructor
  · pointwise [val_main_v147, val_main_v146, val_main_v145, val_main_v144, val_main_v143, val_main_v142, val_main_v141,
    val_main_v140, val_main_v139, val_main_v138, val_main_v137, val_main_v136, val_main_v135, val_main_v110,
    val_main_v113, val_main_v114, val_main_c_22, val_main_c_23, val_main_c_24, val_main_c_25]
    rw [ha]
    exact not_wrapped (by omega) _
  · pointwise [val_main_v147, val_main_v146, val_main_v145, val_main_v144, val_main_v143, val_main_v142, val_main_v141,
    val_main_v140, val_main_v139, val_main_v138, val_main_v137, val_main_v136, val_main_v135, val_main_v110,
    val_main_v113, val_main_v114, val_main_c_22, val_main_c_23, val_main_c_24, val_main_c_25]
    exact not_wrapped (by omega) _

/-- The start indices of a gather: the chosen expert, then the token. -/
theorem v168_at (x0) (x1) (x2) (x3) (x4) (x5) (x6) (r : Fin 24576) (a : Fin 6)
    (ha : val_main_indices (F := Ideal) x0 x1 x2 x3 x4 x5 x6 (ix2 r 1) = BitVec.ofNat 32 a.val) :
    val_main_v168 (F := Ideal) x0 x1 x2 x3 x4 x5 x6 (ix2 r 0) = BitVec.ofNat 32 a.val
      ∧ val_main_v168 (F := Ideal) x0 x1 x2 x3 x4 x5 x6 (ix2 r 1) = BitVec.ofNat 32 r.val := by
  constructor
  · pointwise [val_main_v168, val_main_v167, val_main_v166, val_main_v165, val_main_v164, val_main_v163, val_main_v162,
    val_main_v161, val_main_v160, val_main_v159, val_main_v158, val_main_v157, val_main_v156, val_main_v110,
    val_main_v151, val_main_v152, val_main_c_26, val_main_c_27, val_main_c_28, val_main_c_29]
    rw [ha]
    exact not_wrapped (by omega) _
  · pointwise [val_main_v168, val_main_v167, val_main_v166, val_main_v165, val_main_v164, val_main_v163, val_main_v162,
    val_main_v161, val_main_v160, val_main_v159, val_main_v158, val_main_v157, val_main_v156, val_main_v110,
    val_main_v151, val_main_v152, val_main_c_26, val_main_c_27, val_main_c_28, val_main_c_29]
    exact not_wrapped (by omega) _

/-- The start indices of a gather: the chosen expert, then the token. -/
theorem v185_at (x0) (x1) (x2) (x3) (x4) (x5) (x6) (r : Fin 24576) (a : Fin 6)
    (ha : val_main_indices (F := Ideal) x0 x1 x2 x3 x4 x5 x6 (ix2 r 1) = BitVec.ofNat 32 a.val) :
    val_main_v185 (F := Ideal) x0 x1 x2 x3 x4 x5 x6 (ix2 r 0) = BitVec.ofNat 32 a.val
      ∧ val_main_v185 (F := Ideal) x0 x1 x2 x3 x4 x5 x6 (ix2 r 1) = BitVec.ofNat 32 r.val := by
  constructor
  · pointwise [val_main_v185, val_main_v184, val_main_v183, val_main_v182, val_main_v181, val_main_v180, val_main_v179,
    val_main_v178, val_main_v177, val_main_v176, val_main_v175, val_main_v174, val_main_v173, val_main_v110,
    val_main_v151, val_main_v152, val_main_c_30, val_main_c_31, val_main_c_32, val_main_c_33]
    rw [ha]
    exact not_wrapped (by omega) _
  · pointwise [val_main_v185, val_main_v184, val_main_v183, val_main_v182, val_main_v181, val_main_v180, val_main_v179,
    val_main_v178, val_main_v177, val_main_v176, val_main_v175, val_main_v174, val_main_v173, val_main_v110,
    val_main_v151, val_main_v152, val_main_c_30, val_main_c_31, val_main_c_32, val_main_c_33]
    exact not_wrapped (by omega) _

theorem v131_at (x0) (x1) (x2) (x3) (x4) (x5) (x6) (x7) (x8) (x9) (x10) (x11) (x12) (r : Fin 24576) (n : Fin 120) (a : Fin 6)
    (ha : val_main_indices (F := Ideal) x0 x1 x2 x3 x4 x5 x6 (ix2 r 0) = BitVec.ofNat 32 a.val) :
    val_main_v131 (F := Ideal) x0 x1 x2 x3 x4 x5 x6 x7 x8 x9 x10 x11 x12 (ix2 r n) = expert x7 x8 x9 x10 x11 x12 (token x0 r) a n := by
  have h := v130_at x0 x1 x2 x3 x4 x5 x6 r a ha
  refine (gather_row (by decide) (by decide) _ _ _ r n a r h.1 h.2).trans ?_
  exact v79_at x0 x7 x8 x9 x10 x11 x12 a r n

theorem v169_at (x0) (x1) (x2) (x3) (x4) (x5) (x6) (x7) (x8) (x9) (x10) (x11) (x12) (r : Fin 24576) (n : Fin 120) (a : Fin 6)
    (ha : val_main_indices (F := Ideal) x0 x1 x2 x3 x4 x5 x6 (ix2 r 1) = BitVec.ofNat 32 a.val) :
    val_main_v169 (F := Ideal) x0 x1 x2 x3 x4 x5 x6 x7 x8 x9 x10 x11 x12 (ix2 r n) = expert x7 x8 x9 x10 x11 x12 (token x0 r) a n := by
  have h := v168_at x0 x1 x2 x3 x4 x5 x6 r a ha
  refine (gather_row (by decide) (by decide) _ _ _ r n a r h.1 h.2).trans ?_
  exact v79_at x0 x7 x8 x9 x10 x11 x12 a r n

theorem v148_at (x0) (x1) (x2) (x3) (x4) (x5) (x6) (x13) (x14) (x15) (x16) (x17) (x18) (r : Fin 24576) (a : Fin 6)
    (ha : val_main_indices (F := Ideal) x0 x1 x2 x3 x4 x5 x6 (ix2 r 0) = BitVec.ofNat 32 a.val) :
    val_main_v148 (F := Ideal) x0 x1 x2 x3 x4 x5 x6 x13 x14 x15 x16 x17 x18 (ix1 r) = expert x13 x14 x15 x16 x17 x18 (token x0 r) a 0 := by
  have h := v147_at x0 x1 x2 x3 x4 x5 x6 r a ha
  refine (gather_cell (by decide) (by decide) _ _ _ r a r h.1 h.2).trans ?_
  exact v109_at x0 x13 x14 x15 x16 x17 x18 a r

theorem v186_at (x0) (x1) (x2) (x3) (x4) (x5) (x6) (x13) (x14) (x15) (x16) (x17) (x18) (r : Fin 24576) (a : Fin 6)
    (ha : val_main_indices (F := Ideal) x0 x1 x2 x3 x4 x5 x6 (ix2 r 1) = BitVec.ofNat 32 a.val) :
    val_main_v186 (F := Ideal) x0 x1 x2 x3 x4 x5 x6 x13 x14 x15 x16 x17 x18 (ix1 r) = expert x13 x14 x15 x16 x17 x18 (token x0 r) a 0 := by
  have h := v185_at x0 x1 x2 x3 x4 x5 x6 r a ha
  refine (gather_cell (by decide) (by decide) _ _ _ r a r h.1 h.2).trans ?_
  exact v109_at x0 x13 x14 x15 x16 x17 x18 a r

/-- A token's mixture of paths. -/
theorem v172_at (x0) (x1) (x2) (x3) (x4) (x5) (x6) (x7) (x8) (x9) (x10) (x11) (x12) (r : Fin 24576)
    (hl : ∀ j, Finite (router x1 x2 x3 x4 x5 x6 (token x0 r) j)) :
    ∃ a b : Fin 6, Top2 (router x1 x2 x3 x4 x5 x6 (token x0 r)) a b ∧ ∀ n : Fin 120,
      val_main_v172 (F := Ideal) x0 x1 x2 x3 x4 x5 x6 x7 x8 x9 x10 x11 x12 (ix2 r n)
        = mix (router x1 x2 x3 x4 x5 x6 (token x0 r)) (fun e => expert x7 x8 x9 x10 x11 x12 (token x0 r) e n) a b := by
  obtain ⟨a, b, ht, i0, i1, w0, w1⟩ := chosen x0 x1 x2 x3 x4 x5 x6 r hl
  refine ⟨a, b, ht, fun n => ?_⟩
  pointwise [val_main_v172, val_main_v171, val_main_v170, val_main_v134, val_main_v133, val_main_v132, val_main_v155,
    val_main_v154, val_main_v153, val_main_v117, val_main_v116, val_main_v115, val_main_v111, val_main_cst_17]
  rw [w0, w1, v131_at x0 x1 x2 x3 x4 x5 x6 x7 x8 x9 x10 x11 x12 r n a i0, v169_at x0 x1 x2 x3 x4 x5 x6 x7 x8 x9 x10 x11 x12 r n b i1]
  rfl

/-- A token's mixture of scores. -/
theorem v188_at (x0) (x1) (x2) (x3) (x4) (x5) (x6) (x13) (x14) (x15) (x16) (x17) (x18) (r : Fin 24576)
    (hl : ∀ j, Finite (router x1 x2 x3 x4 x5 x6 (token x0 r) j)) :
    ∃ a b : Fin 6, Top2 (router x1 x2 x3 x4 x5 x6 (token x0 r)) a b ∧
      val_main_v188 (F := Ideal) x0 x1 x2 x3 x4 x5 x6 x13 x14 x15 x16 x17 x18 (ix1 r)
        = mix (router x1 x2 x3 x4 x5 x6 (token x0 r)) (fun e => expert x13 x14 x15 x16 x17 x18 (token x0 r) e 0) a b := by
  obtain ⟨a, b, ht, i0, i1, w0, w1⟩ := chosen x0 x1 x2 x3 x4 x5 x6 r hl
  refine ⟨a, b, ht, ?_⟩
  pointwise [val_main_v188, val_main_v187, val_main_v150, val_main_v149, val_main_v154, val_main_v153, val_main_v116,
    val_main_v115, val_main_v112, val_main_cst_18]
  rw [w0, w1, v148_at x0 x1 x2 x3 x4 x5 x6 x13 x14 x15 x16 x17 x18 r a i0, v186_at x0 x1 x2 x3 x4 x5 x6 x13 x14 x15 x16 x17 x18 r b i1]
  rfl

end Cert.ReferenceIdeal.Read
-- ==== Proof.KernelFinal.lean ====
module
public import proofs.«01_k».proof.Proof.KernelArrays
public import proofs.«01_k».proof.Proof.Reference
/-!
# The kernel's four arrays

Each array the kernel writes is the reference's array before its last reshape.  The array of column sums is
a sum of probabilities over each tile.
-/

@[expose] public section
set_option maxRecDepth 16384
noncomputable section
namespace Cert.KernelIdeal.Value
open Idealize.ShloMosaic Idealize.ShloMosaic.TcCoe Idealize.SL.Sem
open Cert.KernelIdeal Cert.KernelIdeal.Gen Cert.Moe
open Cert.ReferenceIdeal.Read (val_main_v39 val_main_v172 val_main_v188 v39_at v172_at v188_at)

variable (m : (ℓ : Loc nD τ sig) → Buf (Elt Ideal) ℓ) (c : Dev nD) (t : Fin cfg0.N)

/-- The logits of a token, from the arguments. -/
abbrev logits (q : Fin 24576) : Fin 6 → EReal :=
  router (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6))
    (token (m ((c : Thread nD τ).loc main_arg0)) q)

/-- A row of the tile is its token. -/
theorem row_token (r : Fin 1024) : (fun k : Fin 128 => (show FVec Ideal S1024x128 .f32 from iblk m c 0 t) (ix2 r k))
    = token (m ((c : Thread nD τ).loc main_arg0)) (tokenOf t r) := funext fun k => row_0 m c t r k

/-- The router on a row of the tile is the router on its token. -/
theorem row_logits (r : Fin 1024) :
    tileRouter (iblk m c 0 t) (iblk m c 1 t) (iblk m c 2 t) (iblk m c 3 t) (iblk m c 4 t) (iblk m c 5 t)
      (iblk m c 6 t) r = logits m c (tokenOf t r) := by
  have e2 := funext (row_2 m c t)
  have e4 := funext (row_4 m c t)
  have e6 := funext (row_6 m c t)
  have e0 := row_token m c t r
  have e1 := whole_1 m c t
  have e3 := whole_3 m c t
  have e5 := whole_5 m c t
  dsimp only at e0 e2 e4 e6
  unfold tileRouter logits router
  rw [e0, e2, e4, e6, e1, e3, e5]

/-- Where row `r` of block 19 sits in its array. -/
theorem place_19 (r : Fin 1024) (n : Fin 120) :
    ((cfg0.win 19).blk t).view.emb (ix2 r n) = (ix2 (tokenOf t r) n : S24576x120.Idx) := by
  unfold tokenOf
  blk_ext [idx t]

/-- Where row `r` of block 20 sits in its array. -/
theorem place_20 (r : Fin 1024) (n : Fin 1) :
    ((cfg0.win 20).blk t).view.emb (ix2 r n) = (ix2 (tokenOf t r) n : S24576x1.Idx) := by
  unfold tokenOf
  blk_ext [idx t]

/-- Where row `r` of block 21 sits in its array. -/
theorem place_21 (r : Fin 1024) (n : Fin 6) :
    ((cfg0.win 21).blk t).view.emb (ix2 r n) = (ix2 (tokenOf t r) n : S24576x6.Idx) := by
  unfold tokenOf
  blk_ext [idx t]

/-- The block of column sums holds one row of its array. -/
theorem place_22 (n : Fin 6) :
    ((cfg0.win 22).blk t).view.emb (ix3 0 0 n) = (ix3 (⟨t.val, t.isLt⟩ : Fin 24) 0 n : S24x1x6.Idx) := by
  blk_ext [idx t]

/-- The probabilities' array. -/
theorem final_21 : (dats m 0 c).arrAt 21 cfg0.N
    = val_main_v39 (F := Ideal)
      (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) := by
  refine (dats m 0 c).arrAt_eq_of_covers 21 _ (by decide +kernel) fun t _ y => ?_
  blk_simp
  rw [after0_21]
  idx_vars y
  refine (out0_21_at _ _ _ _ _ _ _ _ _ _ _ _ _ _ _ _ _ _ _ y0 y1).trans ?_
  rw [row_logits]
  exact ((congrArg _ (place_21 t y0 y1)).trans (v39_at _ _ _ _ _ _ _ _ _)).symm

/-- Entry `(i, 0, n)` adds the probabilities of expert `n` over tile `i`. -/
def tileSums : FVec Ideal S24x1x6 .f32 := fun i =>
  ∑ r : Fin 1024,
    softmax (logits m c ⟨(i 0).val * 1024 + r.val, by have : (i 0).val < 24 := (i 0).isLt; omega⟩) (i 2)

/-- The entry of tile `t`. -/
theorem tileSums_at (n : Fin 6) : tileSums m c (ix3 (⟨t.val, t.isLt⟩ : Fin 24) 0 n)
    = ∑ r : Fin 1024, softmax (logits m c (tokenOf t r)) n := rfl

/-- The array of column sums. -/
theorem final_22 : (dats m 0 c).arrAt 22 cfg0.N = tileSums m c := by
  refine (dats m 0 c).arrAt_eq_of_covers 22 _ (by decide +kernel) fun t _ y => ?_
  blk_simp
  rw [after0_22]
  idx_vars y
  obtain rfl : y0 = 0 := Subsingleton.elim _ _
  obtain rfl : y1 = 0 := Subsingleton.elim _ _
  refine (out0_22_at _ _ _ _ _ _ _ _ _ _ _ _ _ _ _ _ _ _ _ y2).trans ?_
  simp only [row_logits]
  exact ((congrArg _ (place_22 t y2)).trans (tileSums_at m c t y2)).symm

/-- A vector over the tokens as a column. -/
def column (v : FVec Ideal Cert.ReferenceIdeal.S24576 .f32) : FVec Ideal S24576x1 .f32 := fun i => v (ix1 ⟨(i 0).val, (i 0).isLt⟩)

/-- The column's entries. -/
theorem column_at (v : FVec Ideal Cert.ReferenceIdeal.S24576 .f32) (q : Fin 24576) : column v (ix2 q 0) = v (ix1 q) := rfl

/-- The trajectories' array, when every logit is finite. -/
theorem final_19 (hl : ∀ q j, Moe.Finite (logits m c q j)) : (dats m 0 c).arrAt 19 cfg0.N
    = val_main_v172 (F := Ideal)
      (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7))
      (m ((c : Thread nD τ).loc main_arg8)) (m ((c : Thread nD τ).loc main_arg9))
      (m ((c : Thread nD τ).loc main_arg10)) (m ((c : Thread nD τ).loc main_arg11))
      (m ((c : Thread nD τ).loc main_arg12)) := by
  refine (dats m 0 c).arrAt_eq_of_covers 19 _ (by decide +kernel) fun t _ y => ?_
  blk_simp
  rw [after0_19]
  idx_vars y
  obtain ⟨a, b, h, hv⟩ := v172_at
      (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7))
      (m ((c : Thread nD τ).loc main_arg8)) (m ((c : Thread nD τ).loc main_arg9))
      (m ((c : Thread nD τ).loc main_arg10)) (m ((c : Thread nD τ).loc main_arg11))
      (m ((c : Thread nD τ).loc main_arg12)) (tokenOf t y0) (hl _)
  have hr := row_logits m c t y0
  refine (out0_19_at _ _ _ _ _ _ _ _ _ _ _ _ _ _ _ _ _ _ _ y0 (a := a) (b := b) (by rw [hr]; exact h)
    (by rw [hr]; exact hl _) y1).trans ?_
  have hx := row_token m c t y0
  dsimp only at hx
  rw [hr, hx, whole_7, whole_8, whole_9, whole_10, whole_11, whole_12]
  exact ((congrArg _ (place_19 t y0 y1)).trans (hv y1)).symm

/-- The scores' array, when every logit is finite. -/
theorem final_20 (hl : ∀ q j, Moe.Finite (logits m c q j)) : (dats m 0 c).arrAt 20 cfg0.N
    = column (val_main_v188 (F := Ideal)
      (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg13))
      (m ((c : Thread nD τ).loc main_arg14)) (m ((c : Thread nD τ).loc main_arg15))
      (m ((c : Thread nD τ).loc main_arg16)) (m ((c : Thread nD τ).loc main_arg17))
      (m ((c : Thread nD τ).loc main_arg18))) := by
  refine (dats m 0 c).arrAt_eq_of_covers 20 _ (by decide +kernel) fun t _ y => ?_
  blk_simp
  rw [after0_20]
  idx_vars y
  obtain rfl : y1 = 0 := Subsingleton.elim _ _
  obtain ⟨a, b, h, hv⟩ := v188_at
      (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg13))
      (m ((c : Thread nD τ).loc main_arg14)) (m ((c : Thread nD τ).loc main_arg15))
      (m ((c : Thread nD τ).loc main_arg16)) (m ((c : Thread nD τ).loc main_arg17))
      (m ((c : Thread nD τ).loc main_arg18)) (tokenOf t y0) (hl _)
  have hr := row_logits m c t y0
  refine (out0_20_at _ _ _ _ _ _ _ _ _ _ _ _ _ _ _ _ _ _ _ y0 (a := a) (b := b) (by rw [hr]; exact h)
    (by rw [hr]; exact hl _)).trans ?_
  have hx := row_token m c t y0
  dsimp only at hx
  rw [hr, hx, whole_13, whole_14, whole_15, whole_16, whole_17, whole_18]
  exact ((congrArg _ (place_20 t y0 0)).trans ((column_at _ (tokenOf t y0)).trans hv)).symm

end Cert.KernelIdeal.Value
-- ==== Proof.Results.lean ====
module
public import proofs.«01_k».proof.Proof.KernelFinal

/-!
# The kernel's four results

The results of the kernel after the last host operation, as the reference's results at the same arguments.
-/

@[expose] public section
set_option maxRecDepth 16384
noncomputable section
namespace Cert.KernelIdeal.Value
open Idealize.ShloMosaic Idealize.ShloMosaic.TcCoe Idealize.SL.Sem
open Cert.KernelIdeal Cert.KernelIdeal.Gen Cert.Moe
open Cert.ReferenceIdeal.Read

/-- Reshaping a column reshapes the vector. -/
theorem reshape_column (v : FVec Ideal Cert.ReferenceIdeal.S24576 .f32) :
    shapeCast S4096x6 (column v) shapeCasts_S24576x1_S4096x6
      = shapeCast Cert.ReferenceIdeal.S4096x6 v Cert.ReferenceIdeal.Gen.shapeCasts_S24576_S4096x6 := by
  funext i
  idx_vars i
  pointwise
  exact column_at _ _

variable (m : (ℓ : Loc nD τ sig) → Buf (Elt Ideal) ℓ) (c : Dev nD)

/-- Adding the tiles' column sums is adding the probabilities over all the tokens. -/
theorem total_tileSums : total (tileSums m c) = val_main_v193 (F := Ideal)
      (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) := by
  funext i
  idx_vars i
  pointwise [total, val_main_v193, val_main_v192, val_main_v191, val_main_cst_34]
  simp only [v39_at]
  rw [Fin.sum_univ_tiles 24 1024 rfl]
  rfl

/-- The loss of the sums is the reference's. -/
theorem loss_eq : loss (val_main_v193 (F := Ideal)
      (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)))
    = val_main_v212 (F := Ideal)
      (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) := rfl

end Cert.KernelIdeal.Value
-- ==== Proof.KernelRun.lean ====
module
public import proofs.«01_k».proof.Proof.Results
public import Idealize.ShloMosaic.Lib.Claim

/-!
# The kernel's run

Every run of the kernel's program ends with the reference's four results at the kernel's arguments, where the logits
are real numbers.
-/

@[expose] public section
set_option maxRecDepth 16384
noncomputable section
namespace Cert.KernelIdeal.Value
open Idealize.ShloMosaic Idealize.ShloMosaic.TcCoe Idealize.SL.Sem
open Cert.KernelIdeal Cert.KernelIdeal.Gen Cert.Moe
open Cert.ReferenceIdeal.Read

variable (m : (ℓ : Loc nD τ sig) → Buf (Elt Ideal) ℓ) (c : Dev nD)

/-- The kernel's trajectories are the reference's. -/
theorem result_v5 (hl : ∀ q j, Moe.Finite (logits m c q j)) :
    Pipeline.afterTail₀ cfgs (dats m) 0 (V0 m) [hostOps1] c main_v5 = val_main_v189 (F := Ideal)
          (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12)) := by
  rw [end_v5, final_19 m c hl]
  rfl

/-- The kernel's scores are the reference's. -/
theorem result_v6 (hl : ∀ q j, Moe.Finite (logits m c q j)) :
    Pipeline.afterTail₀ cfgs (dats m) 0 (V0 m) [hostOps1] c main_v6 = val_main_v190 (F := Ideal)
          (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg13))
          (m ((c : Thread nD τ).loc main_arg14)) (m ((c : Thread nD τ).loc main_arg15))
          (m ((c : Thread nD τ).loc main_arg16)) (m ((c : Thread nD τ).loc main_arg17))
          (m ((c : Thread nD τ).loc main_arg18)) := by
  rw [end_v6, final_20 m c hl, reshape_column]
  rfl

/-- The kernel's auxiliary loss is the reference's. -/
theorem result_v28 :
    Pipeline.afterTail₀ cfgs (dats m) 0 (V0 m) [hostOps1] c main_v28 = val_main_v212 (F := Ideal)
          (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  rw [end_v28, final_22, total_tileSums, loss_eq]

/-- The kernel's probabilities are the reference's. -/
theorem result_v7 :
    Pipeline.afterTail₀ cfgs (dats m) 0 (V0 m) [hostOps1] c main_v7 = val_main_v191 (F := Ideal)
          (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  rw [end_v7, final_21]
  rfl

/-- Every run from real logits ends with the reference's results. -/
theorem run (g : Dev nD → PrngReg) (hl : ∀ c q j, Moe.Finite (logits m c q j)) :
    θ_run defs (onTc (τ := τ) (main (F := Ideal))) ⟨m, fun _ => 0, g⟩ fun r => ∀ c : Dev nD,
      r.2.mem ((c.tc : Thread nD τ).loc main_v5) = val_main_v189 (F := Ideal)
          (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12))
      ∧ r.2.mem ((c.tc : Thread nD τ).loc main_v6) = val_main_v190 (F := Ideal)
          (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg13))
          (m ((c : Thread nD τ).loc main_arg14)) (m ((c : Thread nD τ).loc main_arg15))
          (m ((c : Thread nD τ).loc main_arg16)) (m ((c : Thread nD τ).loc main_arg17))
          (m ((c : Thread nD τ).loc main_arg18))
      ∧ r.2.mem ((c.tc : Thread nD τ).loc main_v28) = val_main_v212 (F := Ideal)
          (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6))
      ∧ r.2.mem ((c.tc : Thread nD τ).loc main_v7) = val_main_v191 (F := Ideal)
          (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  refine θ_run_mono (run_main m g) fun r h c => ?_
  have e := (h c).2
  exact ⟨(e main_v5 (by decide)).trans (result_v5 m c (hl c)), (e main_v6 (by decide)).trans (result_v6 m c (hl c)),
    (e main_v28 (by decide)).trans (result_v28 m c), (e main_v7 (by decide)).trans (result_v7 m c)⟩

end Cert.KernelIdeal.Value
-- ==== Proof.Precondition.lean ====
module
public import proofs.«01_k».proof.Proof.Rows
public import proofs.«01_k».proof.Proof.Gen.Pre_router_finite
public import Idealize.ShloMosaic.Lib.ReduceAll

/-!
# What the precondition says

The precondition compares the absolute value of every entry of the features and of the router's weights with
infinity.  So all of them are real numbers, and so is every logit.
-/

@[expose] public section
set_option maxRecDepth 16384
noncomputable section
namespace Cert.Pre_router_finite
open Idealize.ShloMosaic Cert.Moe

/-- The word of infinity is the top of the extended reals. -/
theorem high : Ideal.ofBits .f32 0x7F800000#32 = ⊤ := by simp [Ideal.ofBits, Ideal.ieee]

/-- A conjunction of two bits is one just when both are. -/
theorem both {p q : BitVec 1} (h : IntOp.andi p q = 1#1) : p = 1#1 ∧ q = 1#1 := by
  revert p q; decide

variable {x0 : FVec Ideal S4096x6x128 .f32} {x1 : FVec Ideal S128x256 .f32} {x2 : FVec Ideal S256 .f32}
  {x3 : FVec Ideal S256x128 .f32} {x4 : FVec Ideal S128 .f32} {x5 : FVec Ideal S128x6 .f32} {x6 : FVec Ideal S6 .f32}

/-- An array every one of whose absolute values compares below infinity holds real numbers. -/
theorem finite_of_all {s : Shape} {axes : List (Fin s.rank)} (x : FVec Ideal s .f32) (init : IVec S_ 1)
    (b : S_.BroadcastsInDim s ![]) (r : s.ReducesTo axes S_) (u : 0 < S_.numel) (j : S_.Idx)
    (h : Host.reduce IntOp.andi (cmpf .olt (Host.absf x) (broadcastInDim s ![] b (constant S_ .f32 0x7F800000#32)))
      init r u j = 1#1) (i : s.Idx) : Moe.Finite (x i) := by
  have e := Host.reduce_andi_all _ _ _ _ _ h i
  have e' : BitVec.ofBool (decide (max (x i) (-(x i)) < Ideal.ofBits .f32 0x7F800000#32)) = 1#1 := e
  rw [high] at e'
  refine Finite.of_abs_lt ?_
  by_contra n
  simp [n] at e'

/-- Under the precondition the features and the router's weights are real numbers. -/
theorem all_finite {x7 x8 x9 x10 x11 x12 x13 x14 x15 x16 x17 x18}
    (h : fn (F := Ideal) x0 x1 x2 x3 x4 x5 x6 x7 x8 x9 x10 x11 x12 x13 x14 x15 x16 x17 x18 = fun _ => 1#1) :
    (∀ i, Moe.Finite (x0 i)) ∧ (∀ i, Moe.Finite (x1 i)) ∧ (∀ i, Moe.Finite (x2 i)) ∧ (∀ i, Moe.Finite (x3 i))
      ∧ (∀ i, Moe.Finite (x4 i)) ∧ (∀ i, Moe.Finite (x5 i)) ∧ (∀ i, Moe.Finite (x6 i)) := by
  have e := congrFun h (Shape.Idx.first Gen.facts.h_S_)
  unfold fn fn_part1 at e
  obtain ⟨e, h6⟩ := both e
  obtain ⟨e, h5⟩ := both e
  obtain ⟨e, h4⟩ := both e
  obtain ⟨e, h3⟩ := both e
  obtain ⟨e, h2⟩ := both e
  obtain ⟨h0, h1⟩ := both e
  exact ⟨finite_of_all _ _ _ _ _ _ h0, finite_of_all _ _ _ _ _ _ h1, finite_of_all _ _ _ _ _ _ h2,
    finite_of_all _ _ _ _ _ _ h3, finite_of_all _ _ _ _ _ _ h4, finite_of_all _ _ _ _ _ _ h5,
    finite_of_all _ _ _ _ _ _ h6⟩

/-- Under the precondition every logit of every token is a real number. -/
theorem logits_finite {x7 x8 x9 x10 x11 x12 x13 x14 x15 x16 x17 x18}
    (h : fn (F := Ideal) x0 x1 x2 x3 x4 x5 x6 x7 x8 x9 x10 x11 x12 x13 x14 x15 x16 x17 x18 = fun _ => 1#1)
    (q : Fin 24576) (j : Fin 6) : Moe.Finite (router x1 x2 x3 x4 x5 x6 (token x0 q) j) := by
  obtain ⟨h0, h1, h2, h3, h4, h5, h6⟩ := all_finite h
  exact Moe.Finite.mlp (fun _ => h0 _) (fun _ _ => h1 _) (fun _ => h2 _) (fun _ _ => h3 _) (fun _ => h4 _)
    (fun _ _ => h5 _) (fun _ => h6 _) j

end Cert.Pre_router_finite
-- ==== Proof.Claims.lean ====
module
public import proofs.«01_k».proof.Defs
public import proofs.«01_k».proof.Proof.KernelRun
public import proofs.«01_k».proof.Proof.Precondition
public import proofs.«01_k».proof.Proof.Gen.Kernel.Frame
public import proofs.«01_k».proof.Proof.Gen.ReferenceIdeal.Run
public import proofs.«01_k».proof.Proof.Gen.ReferenceIdeal.Read
public import Idealize.ShloMosaic.Adequacy
public import Idealize.ShloMosaic.Init

/-!
# The claims

Each conjunct of the certificate, from the runs of the programs.
-/

@[expose] public section
set_option maxRecDepth 16384
noncomputable section

namespace Cert.ReferenceIdeal.Value
open Idealize.ShloMosaic Idealize.ShloMosaic.TcCoe Idealize.SL.Sem
open Idealize.ShloMosaic.StableHlo
open Cert.ReferenceIdeal Cert.ReferenceIdeal.Gen Cert.ReferenceIdeal.Read

/-- Every run of the reference ends with its four results at its arguments. -/
theorem run_stages (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v189) = val_main_v189 (F := Ideal)
          (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12))
      ∧ r.2.mem ((c.tc : Thread nD τ).loc main_v190) = val_main_v190 (F := Ideal)
          (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg13))
          (m ((c : Thread nD τ).loc main_arg14)) (m ((c : Thread nD τ).loc main_arg15))
          (m ((c : Thread nD τ).loc main_arg16)) (m ((c : Thread nD τ).loc main_arg17))
          (m ((c : Thread nD τ).loc main_arg18))
      ∧ r.2.mem ((c.tc : Thread nD τ).loc main_v212) = val_main_v212 (F := Ideal)
          (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6))
      ∧ r.2.mem ((c.tc : Thread nD τ).loc main_v191) = val_main_v191 (F := Ideal)
          (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  refine θ_run_mono (run (F := Ideal) m g) fun r h c => ?_
  obtain ⟨h0, h1, h2, h3, -⟩ := h c
  exact ⟨h0.trans (val_main_v189_eq (launchContents m c)), h1.trans (val_main_v190_eq (launchContents m c)),
    h2.trans (val_main_v212_eq (launchContents m c)), h3.trans (val_main_v191_eq (launchContents m c))⟩

end Cert.ReferenceIdeal.Value

namespace Cert.Proof
open Idealize.ShloMosaic Idealize.ShloMosaic.TcCoe Idealize.SL.Sem

/-- The kernel stops with its arguments unchanged and its counters at zero. -/
theorem frame_kernel : @Cert.quiescent_Kernel Cert.Kernel.Gen.facts := fun m g _ => Cert.Kernel.Gen.frame m g

/-- So does the kernel over the extended reals. -/
theorem frame_ideal : @Cert.quiescent_KernelIdeal Cert.KernelIdeal.Gen.facts :=
  fun m g _ => Cert.KernelIdeal.Gen.frame m g

/-- And under the precondition. -/
theorem frame_ideal_finite :
    @Cert.quiescent_KernelIdeal_pre_router_finite Cert.KernelIdeal.Gen.facts Cert.Pre_router_finite.Gen.facts :=
  fun m g _ => Cert.KernelIdeal.Gen.frame m g

/-- The reference stops with its arguments unchanged; it has no counters. -/
theorem frame_reference : @Cert.quiescent_ReferenceIdeal Cert.ReferenceIdeal.Gen.facts := fun m g _ =>
  θ_run_mono (Cert.ReferenceIdeal.Value.run (F := Ideal) m g) fun r h =>
    ⟨fun c => (h c).2.2.2.2, sem_eq_zero_of_no_sems (by decide) r.2⟩

/-- And under the precondition. -/
theorem frame_reference_finite :
    @Cert.quiescent_ReferenceIdeal_pre_router_finite Cert.ReferenceIdeal.Gen.facts Cert.Pre_router_finite.Gen.facts :=
  fun m g _ => frame_reference m g trivial

/-- The named constant has the value its name says. -/
theorem preserves : Cert.preserves_Kernel_KernelIdeal :=
  IdealRules.named_const.statement Cert.KernelIdeal.κ "sqrt_half" .f32 0x3F3504F3#32 ((Real.sqrt (1 / 2) : ℝ) : EReal) rfl

/-- From the same arguments, the router's being real numbers, kernel and reference end with the same four results. -/
theorem algebraic : @Cert.algebraic_KernelIdeal_ReferenceIdeal_pre_router_finite
    Cert.KernelIdeal.Gen.facts Cert.ReferenceIdeal.Gen.facts Cert.Pre_router_finite.Gen.facts := by
  intro m g m' g' hpre hagree
  refine ⟨_, _, _, _, θ_run_mono (θ_run_and
      (Cert.KernelIdeal.Value.run m g fun c => Cert.Pre_router_finite.logits_finite (hpre c))
      (Cert.KernelIdeal.Gen.unchanged m g)) fun r h c =>
        ⟨(h.1 c).1, (h.1 c).2.1, (h.1 c).2.2.1, (h.1 c).2.2.2, h.2 c⟩,
    θ_run_mono (θ_run_and (Cert.ReferenceIdeal.Value.run_stages m' g')
      (Cert.ReferenceIdeal.Value.run (F := Ideal) m' g')) fun r h c =>
        ⟨(h.1 c).1.trans ?_, (h.1 c).2.1.trans ?_, (h.1 c).2.2.1.trans ?_, (h.1 c).2.2.2.trans ?_, (h.2 c).2.2.2.2⟩⟩
  all_goals
    obtain ⟨a0, a1, a2, a3, a4, a5, a6, a7, a8, a9, a10, a11, a12, a13, a14, a15, a16, a17, a18⟩ := hagree c
    simp only [a0, a1, a2, a3, a4, a5, a6, a7, a8, a9, a10, a11, a12, a13, a14, a15, a16, a17, a18]

end Cert.Proof
-- ==== Proof.lean ====
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import proofs.«01_k».proof.Proof.Gen.Pre_router_finite
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Pre_router_finite.Gen.facts,
    frame_kernel, frame_ideal, frame_ideal_finite, frame_reference, frame_reference_finite, preserves, algebraic⟩

end Cert.Proof

end
